-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S5x384x4096 : Shape := ⟨3, ![5, 384, 4096]⟩
abbrev S5x384x4x256 : Shape := ⟨4, ![5, 384, 4, 256]⟩
abbrev S5x384x32 : Shape := ⟨3, ![5, 384, 32]⟩
abbrev S32 : Shape := ⟨1, ![32]⟩
abbrev S5x32x128x256 : Shape := ⟨4, ![5, 32, 128, 256]⟩
abbrev S5x32x256 : Shape := ⟨3, ![5, 32, 256]⟩
abbrev S_ : Shape := ⟨0, ![]⟩

class Facts : Prop where
  bcast_S_S5x384x32 : S_.BroadcastsInDim S5x384x32 (![] : Fin 0 → Fin S5x384x32.rank)
  reducesTo_S5x384x32_S_d0_1_2 : S5x384x32.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S5x384x4096 .bf16) (main_arg1 : FVec F S5x384x4x256 .bf16) (main_arg2 : FVec F S5x384x32 .f32) (main_arg3 : FVec F S32 .f32) (main_arg4 : FVec F S5x32x128x256 .fp8e4m3) (main_arg5 : FVec F S5x32x256 .f32) (main_arg6 : FVec F S5x32x128x256 .f32) : IVec S_ 1 :=
  let main_v0 : FVec F S5x384x32 .f32 := Host.absf main_arg2
  let main_cst : FVec F S_ .f32 := constant S_ .f32 0x7F800000#32
  let main_v1 : FVec F S5x384x32 .f32 := broadcastInDim S5x384x32 ![] bcast_S_S5x384x32 main_cst
  let main_v2 : IVec S5x384x32 1 := cmpf .olt main_v0 main_v1
  let main_c : IVec S_ 1 := constantI S_ 1 1#1
  let main_v3 : IVec S_ 1 := (fun x v => Host.reduce IntOp.andi x v reducesTo_S5x384x32_S_d0_1_2 h_S_) main_v2 main_c
  let main_cst_0 : FVec F S_ .f32 := constant S_ .f32 0x7F800000#32
  let main_v4 : FVec F S32 .f32 := broadcastInDim S32 ![] bcast_S_S32 main_cst_0
  let main_v5 : IVec S32 1 := cmpf .olt main_arg3 main_v4
  let main_c_1 : IVec S_ 1 := constantI S_ 1 1#1
  let main_v6 : IVec S_ 1 := (fun x v => Host.reduce IntOp.andi x v reducesTo_S32_S_d0 h_S_) main_v5 main_c_1
  let main_v7 : IVec S_ 1 := andi main_v3 main_v6
  main_v7
-- ==== Kernel.lean ====
abbrev S5x384x4096 : Shape := ⟨3, ![5, 384, 4096]⟩
abbrev S5x384x4x256 : Shape := ⟨4, ![5, 384, 4, 256]⟩
abbrev S5x384x32 : Shape := ⟨3, ![5, 384, 32]⟩
abbrev S32 : Shape := ⟨1, ![32]⟩
abbrev S5x32x128x256 : Shape := ⟨4, ![5, 32, 128, 256]⟩
abbrev S5x32x256 : Shape := ⟨3, ![5, 32, 256]⟩
abbrev S5x32x384 : Shape := ⟨3, ![5, 32, 384]⟩
abbrev S1x32 : Shape := ⟨2, ![1, 32]⟩
abbrev S1x384x1024 : Shape := ⟨3, ![1, 384, 1024]⟩
abbrev S1x384x4x256 : Shape := ⟨4, ![1, 384, 4, 256]⟩
abbrev S1x32x384 : Shape := ⟨3, ![1, 32, 384]⟩
abbrev S1x8x128x256 : Shape := ⟨4, ![1, 8, 128, 256]⟩
abbrev S1x32x256 : Shape := ⟨3, ![1, 32, 256]⟩
abbrev S4x384x8 : Shape := ⟨3, ![4, 384, 8]⟩
abbrev S4x384x256 : Shape := ⟨3, ![4, 384, 256]⟩
abbrev S32x384 : Shape := ⟨2, ![32, 384]⟩
abbrev S384x384 : Shape := ⟨2, ![384, 384]⟩
abbrev S384x32 : Shape := ⟨2, ![384, 32]⟩
abbrev S384x8 : Shape := ⟨2, ![384, 8]⟩
abbrev S1x384x8 : Shape := ⟨3, ![1, 384, 8]⟩
abbrev S1x384x1x256 : Shape := ⟨4, ![1, 384, 1, 256]⟩
abbrev S384x256 : Shape := ⟨2, ![384, 256]⟩
abbrev S1x384x256 : Shape := ⟨3, ![1, 384, 256]⟩
abbrev S1x8 : Shape := ⟨2, ![1, 8]⟩
abbrev S1x8x256 : Shape := ⟨3, ![1, 8, 256]⟩
abbrev S8x256 : Shape := ⟨2, ![8, 256]⟩
abbrev S1x256 : Shape := ⟨2, ![1, 256]⟩
abbrev S1x1x128x256 : Shape := ⟨4, ![1, 1, 128, 256]⟩
abbrev S128x256 : Shape := ⟨2, ![128, 256]⟩
abbrev S1x1 : Shape := ⟨2, ![1, 1]⟩
abbrev S256 : Shape := ⟨1, ![256]⟩
abbrev S1x1x256 : Shape := ⟨3, ![1, 1, 256]⟩
abbrev S256x256 : Shape := ⟨2, ![256, 256]⟩
abbrev S384x128 : Shape := ⟨2, ![384, 128]⟩
abbrev S384x1 : Shape := ⟨2, ![384, 1]⟩
abbrev S1x384x128 : Shape := ⟨3, ![1, 384, 128]⟩

abbrev nBuf : Space → Nat
  | .hbm => 12
  | .vmem => 21
  | .smem => 0
  | _ => 0

abbrev bufTy : (tb : Table) → Fin (tcTables nBuf tb) → BufTy
  | .hbm, ⟨0, _⟩ => ⟨S5x384x4096, .bf16⟩
  | .hbm, ⟨1, _⟩ => ⟨S5x384x4x256, .bf16⟩
  | .hbm, ⟨2, _⟩ => ⟨S5x384x32, .f32⟩
  | .hbm, ⟨3, _⟩ => ⟨S32, .f32⟩
  | .hbm, ⟨4, _⟩ => ⟨S5x32x128x256, .fp8e4m3⟩
  | .hbm, ⟨5, _⟩ => ⟨S5x32x256, .f32⟩
  | .hbm, ⟨6, _⟩ => ⟨S5x32x128x256, .f32⟩
  | .hbm, ⟨7, _⟩ => ⟨S5x32x384, .f32⟩
  | .hbm, ⟨8, _⟩ => ⟨S1x32, .f32⟩
  | .hbm, ⟨9, _⟩ => ⟨S5x384x4096, .bf16⟩
  | .hbm, ⟨10, _⟩ => ⟨S5x32x128x256, .fp8e4m3⟩
  | .hbm, ⟨11, _⟩ => ⟨S5x32x256, .f32⟩
  | .local _ .vmem, ⟨0, _⟩ => ⟨S1x384x1024, .bf16⟩
  | .local _ .vmem, ⟨1, _⟩ => ⟨S1x384x1024, .bf16⟩
  | .local _ .vmem, ⟨2, _⟩ => ⟨S1x384x4x256, .bf16⟩
  | .local _ .vmem, ⟨3, _⟩ => ⟨S1x384x4x256, .bf16⟩
  | .local _ .vmem, ⟨4, _⟩ => ⟨S1x32x384, .f32⟩
  | .local _ .vmem, ⟨5, _⟩ => ⟨S1x32x384, .f32⟩
  | .local _ .vmem, ⟨6, _⟩ => ⟨S1x32, .f32⟩
  | .local _ .vmem, ⟨7, _⟩ => ⟨S1x8x128x256, .fp8e4m3⟩
  | .local _ .vmem, ⟨8, _⟩ => ⟨S1x8x128x256, .fp8e4m3⟩
  | .local _ .vmem, ⟨9, _⟩ => ⟨S1x32x256, .f32⟩
  | .local _ .vmem, ⟨10, _⟩ => ⟨S1x32x256, .f32⟩
  | .local _ .vmem, ⟨11, _⟩ => ⟨S1x8x128x256, .f32⟩
  | .local _ .vmem, ⟨12, _⟩ => ⟨S1x8x128x256, .f32⟩
  | .local _ .vmem, ⟨13, _⟩ => ⟨S1x384x1024, .bf16⟩
  | .local _ .vmem, ⟨14, _⟩ => ⟨S1x384x1024, .bf16⟩
  | .local _ .vmem, ⟨15, _⟩ => ⟨S1x8x128x256, .fp8e4m3⟩
  | .local _ .vmem, ⟨16, _⟩ => ⟨S1x8x128x256, .fp8e4m3⟩
  | .local _ .vmem, ⟨17, _⟩ => ⟨S1x32x256, .f32⟩
  | .local _ .vmem, ⟨18, _⟩ => ⟨S1x32x256, .f32⟩
  | .local _ .vmem, ⟨19, _⟩ => ⟨S4x384x8, .f32⟩
  | .local _ .vmem, ⟨20, _⟩ => ⟨S4x384x256, .bf16⟩
  | _, _ => ⟨S5x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![5, 4], ![false, false]⟩

def k0_off1 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_off2 (i : grid0.Coords) : Fin 3 → Nat :=
  let arg1 : BitVec 32 := BitVec.ofNat 32 (i 1).val
  let v6 : Index := Scalar.indexCast arg1
  let c0_2 : Index := 0#32
  let c0_3 : Index := 0#32
  ![v6.toNat, 0, 0]
def k0_mult1 (i : grid0.Coords) : BitVec 32 :=
  let arg1 : BitVec 32 := BitVec.ofNat 32 (i 1).val
  let c8_i32 : BitVec 32 := 8#32
  let v10 : BitVec 32 := Scalar.muli arg1 c8_i32
  v10
def k0_off3 (i : grid0.Coords) : Fin 3 → Nat :=
  let c0_4 : Index := 0#32
  let arg1 : BitVec 32 := BitVec.ofNat 32 (i 1).val
  let c8_i32 : BitVec 32 := 8#32
  let v10 : BitVec 32 := Scalar.muli arg1 c8_i32
  let v11 : BitVec 32 := v10
  let v12 : Index := Scalar.indexCast v11
  let c0_5 : Index := 0#32
  ![0, v12.toNat, 0]
def k0_off4 (i : grid0.Coords) (c0_i32_21 : BitVec 32) : Fin 3 → Nat :=
  let c0_22 : Index := 0#32
  let arg1 : BitVec 32 := BitVec.ofNat 32 (i 1).val
  let c8_i32_20 : BitVec 32 := 8#32
  let v89 : BitVec 32 := Scalar.muli arg1 c8_i32_20
  let v90 : BitVec 32 := Scalar.addi v89 c0_i32_21
  let v91 : Index := Scalar.indexCast v90
  let c0_23 : Index := 0#32
  ![0, v91.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x4x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S5x384x4096 : Shape := ⟨3, ![5, 384, 4096]⟩
abbrev S5x384x4x256 : Shape := ⟨4, ![5, 384, 4, 256]⟩
abbrev S5x384x32 : Shape := ⟨3, ![5, 384, 32]⟩
abbrev S32 : Shape := ⟨1, ![32]⟩
abbrev S5x32x128x256 : Shape := ⟨4, ![5, 32, 128, 256]⟩
abbrev S5x32x256 : Shape := ⟨3, ![5, 32, 256]⟩
abbrev S246 : Shape := ⟨1, ![246]⟩
abbrev S1x1x32 : Shape := ⟨3, ![1, 1, 32]⟩
abbrev S_ : Shape := ⟨0, ![]⟩
abbrev S5x4x384x256 : Shape := ⟨4, ![5, 4, 384, 256]⟩
abbrev S246x1x1x1 : Shape := ⟨4, ![246, 1, 1, 1]⟩
abbrev S5x32x1x256 : Shape := ⟨4, ![5, 32, 1, 256]⟩
abbrev S20x1024x256 : Shape := ⟨3, ![20, 1024, 256]⟩
abbrev S20x384x256 : Shape := ⟨3, ![20, 384, 256]⟩
abbrev S20x384x1024 : Shape := ⟨3, ![20, 384, 1024]⟩
abbrev S5x4x384x8x128 : Shape := ⟨5, ![5, 4, 384, 8, 128]⟩
abbrev S5x384x4x8 : Shape := ⟨4, ![5, 384, 4, 8]⟩
abbrev S5x4x384x8 : Shape := ⟨4, ![5, 4, 384, 8]⟩
abbrev S5x4x384x8x1 : Shape := ⟨5, ![5, 4, 384, 8, 1]⟩
abbrev S5x384x4x8x128 : Shape := ⟨5, ![5, 384, 4, 8, 128]⟩
abbrev S5x1x32 : Shape := ⟨3, ![5, 1, 32]⟩
abbrev S5x32 : Shape := ⟨2, ![5, 32]⟩
abbrev S5x32x1x1 : Shape := ⟨4, ![5, 32, 1, 1]⟩
abbrev S1x5x32x256 : Shape := ⟨4, ![1, 5, 32, 256]⟩
abbrev S246x5x32x256 : Shape := ⟨4, ![246, 5, 32, 256]⟩

abbrev nBuf : Space → Nat
  | .hbm => 22
  | .vmem => 10
  | .smem => 0
  | _ => 0

abbrev bufTy : (tb : Table) → Fin (tcTables nBuf tb) → BufTy
  | .hbm, ⟨0, _⟩ => ⟨S5x384x4096, .bf16⟩
  | .hbm, ⟨1, _⟩ => ⟨S5x384x4x256, .bf16⟩
  | .hbm, ⟨2, _⟩ => ⟨S5x384x32, .f32⟩
  | .hbm, ⟨3, _⟩ => ⟨S32, .f32⟩
  | .hbm, ⟨4, _⟩ => ⟨S5x32x128x256, .fp8e4m3⟩
  | .hbm, ⟨5, _⟩ => ⟨S5x32x256, .f32⟩
  | .hbm, ⟨6, _⟩ => ⟨S5x32x128x256, .f32⟩
  | .hbm, ⟨7, _⟩ => ⟨S246, .f32⟩
  | .hbm, ⟨8, _⟩ => ⟨S32, .f32⟩
  | .hbm, ⟨9, _⟩ => ⟨S1x1x32, .f32⟩
  | .hbm, ⟨10, _⟩ => ⟨S1x1x32, .f32⟩
  | .hbm, ⟨11, _⟩ => ⟨S5x384x32, .f32⟩
  | .hbm, ⟨12, _⟩ => ⟨S5x384x32, .f32⟩
  | .hbm, ⟨13, _⟩ => ⟨S_, .f32⟩
  | .hbm, ⟨14, _⟩ => ⟨S_, .f32⟩
  | .hbm, ⟨15, _⟩ => ⟨S5x384x32, .f32⟩
  | .hbm, ⟨16, _⟩ => ⟨S5x384x32, .f32⟩
  | .hbm, ⟨17, _⟩ => ⟨S5x4x384x256, .bf16⟩
  | .hbm, ⟨18, _⟩ => ⟨S246x1x1x1, .f32⟩
  | .hbm, ⟨19, _⟩ => ⟨S5x384x4096, .bf16⟩
  | .hbm, ⟨20, _⟩ => ⟨S5x32x128x256, .fp8e4m3⟩
  | .hbm, ⟨21, _⟩ => ⟨S5x32x256, .f32⟩
  | .local _ .vmem, ⟨0, _⟩ => ⟨S5x384x4096, .bf16⟩
  | .local _ .vmem, ⟨1, _⟩ => ⟨S5x4x384x256, .bf16⟩
  | .local _ .vmem, ⟨2, _⟩ => ⟨S5x384x32, .f32⟩
  | .local _ .vmem, ⟨3, _⟩ => ⟨S5x32x128x256, .fp8e4m3⟩
  | .local _ .vmem, ⟨4, _⟩ => ⟨S5x32x256, .f32⟩
  | .local _ .vmem, ⟨5, _⟩ => ⟨S5x32x128x256, .f32⟩
  | .local _ .vmem, ⟨6, _⟩ => ⟨S246x1x1x1, .f32⟩
  | .local _ .vmem, ⟨7, _⟩ => ⟨S5x384x4096, .bf16⟩
  | .local _ .vmem, ⟨8, _⟩ => ⟨S5x32x128x256, .fp8e4m3⟩
  | .local _ .vmem, ⟨9, _⟩ => ⟨S5x32x256, .f32⟩
  | _, _ => ⟨S5x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_call0_cst : Ref sig .tc := ⟨.hbm, 13, rfl⟩
abbrev main_call0_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S5x384x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x4x384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x32x128x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x32x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S246x1x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x384x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x32x128x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.BRuns.lean ====
/- The machine-float kernel's frame: what the body's runs share (the branch condition in closed form, the staging and
   scratch memrefs), and the frame claim's post from a run that names nothing of the outputs. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post -/

/-- The frame from a run: if the arrays of the proof data are the contents at the region's entry, the run's end state
    has every argument array as launched. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 20 := Nat.lt_of_lt_of_eq t.isLt N_0
    have e0 : (grid0.coords t 0).val = t.val / 4 % 5 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x384x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x384x4x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x128x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4x384x8 .f32 := Memref.whole cc0_scratch0
abbrev scM0_1 : Memref sig .tc .vmem S4x384x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.BRunA.lean ====
/- The machine-float kernel's frame: the whole body run at the first head group of a step. -/
module

public import proofs.«01_k».proof.Proof.BRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at the first head group of a step (points 0, 4, 8, 12, 16): on whole staging memrefs, the inputs at their contents and
    the outputs at anything, it runs and hands the inputs back as they were and the outputs and scratch at some contents. -/
theorem kernelRun0_A (c : Dev nD) (i : grid0.Coords) (arg2 : Memref sig .tc .vmem S1x384x1024 .bf16) (harg2 : arg2.IsWhole) (arg3 : Memref sig .tc .vmem S1x384x4x256 .bf16) (harg3 : arg3.IsWhole) (arg4 : Memref sig .tc .vmem S1x32x384 .f32) (harg4 : arg4.IsWhole) (arg5 : Memref sig .tc .vmem S1x32 .f32) (harg5 : arg5.IsWhole) (arg6 : Memref sig .tc .vmem S1x8x128x256 .fp8e4m3) (harg6 : arg6.IsWhole) (arg7 : Memref sig .tc .vmem S1x32x256 .f32) (harg7 : arg7.IsWhole) (arg8 : Memref sig .tc .vmem S1x8x128x256 .f32) (harg8 : arg8.IsWhole) (arg9 : Memref sig .tc .vmem S1x384x1024 .bf16) (harg9 : arg9.IsWhole) (arg10 : Memref sig .tc .vmem S1x8x128x256 .fp8e4m3) (harg10 : arg10.IsWhole) (arg11 : Memref sig .tc .vmem S1x32x256 .f32) (harg11 : arg11.IsWhole) (arg12 : Memref sig .tc .vmem S4x384x8 .f32) (harg12 : arg12.IsWhole) (arg13 : Memref sig .tc .vmem S4x384x256 .bf16) (harg13 : arg13.IsWhole) (hc0 : cond0_0 i)
    (x0 : Vec F S1x384x1024 .bf16) (x1 : Vec F S1x384x4x256 .bf16) (x2 : Vec F S1x32x384 .f32) (x3 : Vec F S1x32 .f32) (x4 : Vec F S1x8x128x256 .fp8e4m3) (x5 : Vec F S1x32x256 .f32) (x6 : Vec F S1x8x128x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_carry_correction i arg2 harg2 arg3 harg3 arg4 harg4 arg5 harg5 arg6 harg6 arg7 harg7 arg8 harg8 arg9 harg9 arg10 harg10 arg11 harg11 arg12 harg12 arg13 harg13) K := by
    intro E K
    simp only [cc0_carry_correction_eq_skeleton]; unfold cc0_carry_correction_skel
    simp only [k0_part22_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Kernel.Gen

end
-- ==== Proof.BRunB.lean ====
/- The machine-float kernel's frame: the whole body run at the other head groups. -/
module

public import proofs.«01_k».proof.Proof.BRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at the other head groups of a step: on whole staging memrefs, the inputs at their contents and
    the outputs at anything, it runs and hands the inputs back as they were and the outputs and scratch at some contents. -/
theorem kernelRun0_B (c : Dev nD) (i : grid0.Coords) (arg2 : Memref sig .tc .vmem S1x384x1024 .bf16) (harg2 : arg2.IsWhole) (arg3 : Memref sig .tc .vmem S1x384x4x256 .bf16) (harg3 : arg3.IsWhole) (arg4 : Memref sig .tc .vmem S1x32x384 .f32) (harg4 : arg4.IsWhole) (arg5 : Memref sig .tc .vmem S1x32 .f32) (harg5 : arg5.IsWhole) (arg6 : Memref sig .tc .vmem S1x8x128x256 .fp8e4m3) (harg6 : arg6.IsWhole) (arg7 : Memref sig .tc .vmem S1x32x256 .f32) (harg7 : arg7.IsWhole) (arg8 : Memref sig .tc .vmem S1x8x128x256 .f32) (harg8 : arg8.IsWhole) (arg9 : Memref sig .tc .vmem S1x384x1024 .bf16) (harg9 : arg9.IsWhole) (arg10 : Memref sig .tc .vmem S1x8x128x256 .fp8e4m3) (harg10 : arg10.IsWhole) (arg11 : Memref sig .tc .vmem S1x32x256 .f32) (harg11 : arg11.IsWhole) (arg12 : Memref sig .tc .vmem S4x384x8 .f32) (harg12 : arg12.IsWhole) (arg13 : Memref sig .tc .vmem S4x384x256 .bf16) (harg13 : arg13.IsWhole) (hc0 : ¬cond0_0 i)
    (x0 : Vec F S1x384x1024 .bf16) (x1 : Vec F S1x384x4x256 .bf16) (x2 : Vec F S1x32x384 .f32) (x3 : Vec F S1x32 .f32) (x4 : Vec F S1x8x128x256 .fp8e4m3) (x5 : Vec F S1x32x256 .f32) (x6 : Vec F S1x8x128x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_carry_correction i arg2 harg2 arg3 harg3 arg4 harg4 arg5 harg5 arg6 harg6 arg7 harg7 arg8 harg8 arg9 harg9 arg10 harg10 arg11 harg11 arg12 harg12 arg13 harg13) K := by
    intro E K
    simp only [cc0_carry_correction_eq_skeleton]; unfold cc0_carry_correction_skel
    simp only [k0_part22_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Kernel.Gen

end
-- ==== Proof.BFrame.lean ====
/- The machine-float kernel's frame: the proof data, the body obligation, the run, and the frame claim. The outputs'
   contents are left unnamed: the claim is about the arguments and the counters. -/
module

public import proofs.«01_k».proof.Proof.BRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this frame leaves unnamed (7, 8, 9): the frame says nothing of what the kernel stores there. -/
def forgets0 : Fin 10 → Bool := fun w => w.val == 7 || w.val == 8 || w.val == 9

/-- The proof data of the one pipeline on core `c`: the arrays as the region finds them; after the body each input's
    buffer at its block and the outputs unnamed; the scratch and the generator register kept at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The arrays of the proof data are the contents at the region's entry. -/
theorem A_eq (c : Dev nD) (w : Fin cfg0.W) : (dats m 0 c).A w = V m c (Pipeline.arrRef spec0 w) := by
  dsimp only [dats]

/-- The body leaves input window 0 at its block. -/
theorem after0_0 (c : Dev nD) (t : Fin cfg0.N) : (dats m 0 c).after 0 t = iblk m c 0 t := by dsimp only [dats]
/-- The body leaves input window 1 at its block. -/
theorem after0_1 (c : Dev nD) (t : Fin cfg0.N) : (dats m 0 c).after 1 t = iblk m c 1 t := by dsimp only [dats]
/-- The body leaves input window 2 at its block. -/
theorem after0_2 (c : Dev nD) (t : Fin cfg0.N) : (dats m 0 c).after 2 t = iblk m c 2 t := by dsimp only [dats]
/-- The body leaves input window 3 at its block. -/
theorem after0_3 (c : Dev nD) (t : Fin cfg0.N) : (dats m 0 c).after 3 t = iblk m c 3 t := by dsimp only [dats]
/-- The body leaves input window 4 at its block. -/
theorem after0_4 (c : Dev nD) (t : Fin cfg0.N) : (dats m 0 c).after 4 t = iblk m c 4 t := by dsimp only [dats]
/-- The body leaves input window 5 at its block. -/
theorem after0_5 (c : Dev nD) (t : Fin cfg0.N) : (dats m 0 c).after 5 t = iblk m c 5 t := by dsimp only [dats]
/-- The body leaves input window 6 at its block. -/
theorem after0_6 (c : Dev nD) (t : Fin cfg0.N) : (dats m 0 c).after 6 t = iblk m c 6 t := by dsimp only [dats]

/-- Before the body, input window 0 holds its block, fetched at this point or not. -/
theorem before0_0 (c : Dev nD) (t : Fin cfg0.N) (d) : (dats m 0 c).before 0 t d = iblk m c 0 t :=
  before0_0_of m (dats m 0 c) (A_eq m c 0) (after0_0 m c) t d
/-- Before the body, input window 1 holds its block. -/
theorem before0_1 (c : Dev nD) (t : Fin cfg0.N) (d) : (dats m 0 c).before 1 t d = iblk m c 1 t :=
  before0_1_of m (dats m 0 c) (A_eq m c 1) (after0_1 m c) t d
/-- Before the body, input window 2 holds its block. -/
theorem before0_2 (c : Dev nD) (t : Fin cfg0.N) (d) : (dats m 0 c).before 2 t d = iblk m c 2 t :=
  before0_2_of m (dats m 0 c) (A_eq m c 2) (after0_2 m c) t d
/-- Before the body, input window 3 holds its block. -/
theorem before0_3 (c : Dev nD) (t : Fin cfg0.N) (d) : (dats m 0 c).before 3 t d = iblk m c 3 t :=
  before0_3_of m (dats m 0 c) (A_eq m c 3) (after0_3 m c) t d
/-- Before the body, input window 4 holds its block. -/
theorem before0_4 (c : Dev nD) (t : Fin cfg0.N) (d) : (dats m 0 c).before 4 t d = iblk m c 4 t :=
  before0_4_of m (dats m 0 c) (A_eq m c 4) (after0_4 m c) t d
/-- Before the body, input window 5 holds its block. -/
theorem before0_5 (c : Dev nD) (t : Fin cfg0.N) (d) : (dats m 0 c).before 5 t d = iblk m c 5 t :=
  before0_5_of m (dats m 0 c) (A_eq m c 5) (after0_5 m c) t d
/-- Before the body, input window 6 holds its block. -/
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- What the body returns at point `t`, window by window. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point: the inputs hold their blocks, the point is the first of its step or not, and that case's run
    applies; the scratch comes at some contents and goes back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  have hN : t.val < 20 := lt_of_lt_of_eq t.isLt (show cfg0.N = 20 from N_0)
  by_cases h0 : t.val % 4 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch: the run ends with the arguments as the frame wants them and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters every weakly fair execution terminates with the input arrays unchanged, nothing
    stated of the outputs, and every other unscoped buffer at its contents at the region's entry. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forget m ρ (fun c => (dats m 0 c).toRForget forgets0) (A_eq m) (run_main m ρ)

/-- The frame: every execution terminates with the arguments unchanged and the counters at zero, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.KRuns.lean ====
/- What the body's runs share: the branch condition in closed form, the staging and scratch memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 20 := Nat.lt_of_lt_of_eq t.isLt N_0
    have e0 : (grid0.coords t 0).val = t.val / 4 % 5 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x384x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x384x4x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x128x256 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4x384x8 .f32 := Memref.whole cc0_scratch0
abbrev scM0_1 : Memref sig .tc .vmem S4x384x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KHead.lean ====
/- One head's work of the kernel's body, as vector operations of what the body loads: the eight heads of a group are printed as
   different splits of this one chain. -/
module

public import proofs.«01_k».proof.Proof.KRuns

@[expose] public section

set_option maxRecDepth 16384

noncomputable section

namespace Cert.K

open Idealize.ShloMosaic Idealize.ShloMosaic.TcCoe Cert.KernelIdeal Cert.KernelIdeal.Gen

variable {F : FTy → Type} [FloatOps F]

/-- Head `r`'s row of the group's eight is inside it. -/
theorem slicesRow {r : ℕ} (h : r < 8) : S8x256.Slices ![r, 0] S1x256 :=
  ⟨rfl, fun a => by fin_cases a <;> simp <;> omega⟩

/-- Head `r`'s entry of the final decay row is inside it. -/
theorem slicesOne {r : ℕ} (h : r < 8) : S1x8.Slices ![0, r] S1x1 :=
  ⟨rfl, fun a => by fin_cases a <;> simp <;> omega⟩

/-- Head `r`'s column of the group's decays is inside them. -/
theorem slicesCol {r : ℕ} (h : r < 8) : S384x8.Slices ![0, r] S384x1 :=
  ⟨rfl, fun a => by fin_cases a <;> simp <;> omega⟩

/-- The half of a pair's product that belongs to its head `k` is inside it. -/
theorem slicesHalf {k : ℕ} (h : k < 2) : S384x256.Slices ![0, 128 * k] S384x128 :=
  ⟨rfl, fun a => by fin_cases a <;> simp <;> omega⟩

/-- Head `r`'s block of a group's codes or states is inside it. -/
theorem inbHead {r : ℕ} (h : r < 8) : ∀ a, (![0, r, 0, 0] : Fin 4 → ℕ) a + S1x1x128x256.size a ≤ S1x8x128x256.size a :=
  fun a => by fin_cases a <;> simp <;> omega

/-- Head `r`'s lanes of a group's outputs are inside them. -/
theorem inbLane {r : ℕ} (h : r < 8) : ∀ a, (![0, 0, 128 * r] : Fin 3 → ℕ) a + S1x384x128.size a ≤ S1x384x1024.size a :=
  fun a => by fin_cases a <;> simp <;> omega

/-- The heads' f32 states: `decay · (code · scale) + local`, head `r`, from the loaded blocks. -/
def hV (v9 : FVec F S1x8 .f32) (v14 : FVec F S8x256 .f32) (r : ℕ) (h : r < 8) (code : Vec F S1x1x128x256 .fp8e4m3)
    (hl : Vec F S1x1x128x256 .f32) : FVec F S128x256 .f32 :=
  addf (mulf (broadcastTo S128x256 (extractStridedSlice S1x1 ![0, r] v9 (slicesOne h)) broadcasts_S1x1_S128x256)
      (mulf (extf .f32 (shapeCast S128x256 code shapeCasts_S1x1x128x256_S128x256) bitsLt_fp8e4m3_f32)
        (broadcastTo S128x256 (extractStridedSlice S1x256 ![r, 0] v14 (slicesRow h)) broadcasts_S1x256_S128x256)))
    (shapeCast S128x256 hl shapeCasts_S1x1x128x256_S128x256)

/-- The initial states of head `r` in bf16: `code · scale`. -/
def hB (v14 : FVec F S8x256 .f32) (r : ℕ) (h : r < 8) (code : Vec F S1x1x128x256 .fp8e4m3) : FVec F S128x256 .bf16 :=
  mulf (extf .bf16 (shapeCast S128x256 code shapeCasts_S1x1x128x256_S128x256) bitsLt_fp8e4m3_bf16)
    (broadcastTo S128x256 (truncf .bf16 (extractStridedSlice S1x256 ![r, 0] v14 (slicesRow h)) bitsLt_bf16_f32)
      broadcasts_S1x256_S128x256)

/-- The columns' greatest magnitudes over 448. -/
def hA (v : FVec F S128x256 .f32) : FVec F S1x256 .f32 :=
  mulf (shapeCast S1x256 (multiReduction .maximumf [0] S256 (absf v) 0xFF800000#32 reduces_S128x256_S256 (.inl rfl) rfl)
    shapeCasts_S256_S1x256) (broadcast S1x256 (Scalar.ofBits .f32 0x3B124925#32))

/-- One step of the search for the exponent field: up by `c` where the number reaches the power of two there. -/
def hStep (a : FVec F S1x256 .f32) (f : IVec S1x256 32) (c : BitVec 32) : IVec S1x256 32 :=
  select (cmpf .oge a (bitcastToFloat .f32 (addi f (broadcast S1x256 c)))) (addi f (broadcast S1x256 c)) f

/-- The exponent field of each column's number. -/
def hField (a : FVec F S1x256 .f32) : IVec S1x256 32 :=
  hStep a (hStep a (hStep a (hStep a (hStep a (hStep a (hStep a (hStep a (broadcast S1x256 0#32) 998244352#32) 536870912#32)
    268435456#32) 134217728#32) 67108864#32) 33554432#32) 16777216#32) 8388608#32

/-- Which columns' exponent field is zero. -/
def hZero (a : FVec F S1x256 .f32) : IVec S1x256 1 := cmpi .eq (hField a) (broadcast S1x256 0#32)

/-- The columns' power-of-two scales. -/
def hScale (a : FVec F S1x256 .f32) : FVec F S1x256 .f32 :=
  select (hZero a) (broadcast S1x256 (Scalar.ofBits .f32 0x3F800000#32))
    (bitcastToFloat .f32 (addi (hField a) (broadcast S1x256 8388608#32)))

/-- The columns' scales' reciprocals. -/
def hInv (a : FVec F S1x256 .f32) : FVec F S1x256 .f32 :=
  select (hZero a) (broadcast S1x256 (Scalar.ofBits .f32 0x3F800000#32))
    (bitcastToFloat .f32 (subi (broadcast S1x256 2122317824#32) (hField a)))

/-- The row of scales a head stores. -/
def hOutS (v : FVec F S128x256 .f32) : FVec F S1x1x256 .f32 :=
  shapeCast S1x1x256 (hScale (hA v)) shapeCasts_S1x256_S1x1x256

/-- The block of codes a head stores. -/
def hOutC (v : FVec F S128x256 .f32) : FVec F S1x1x128x256 .fp8e4m3 :=
  shapeCast S1x1x128x256 (truncf .fp8e4m3 (minimumf (broadcast S128x256 (Scalar.ofBits .f32 0x43E00000#32))
    (maximumf (broadcast S128x256 (Scalar.ofBits .f32 0xC3E00000#32))
      (mulf v (broadcastTo S128x256 (hInv (hA v)) broadcasts_S1x256_S128x256)))) bitsLt_fp8e4m3_f32)
    shapeCasts_S128x256_S1x1x128x256

/-- A pair of heads' products with `C`. -/
def hDot (v8 : FVec F S384x256 .bf16) (b0 b1 : FVec F S128x256 .bf16) : FVec F S384x256 .f32 :=
  matmul dot_S384x256_S256x256_S384x256_1_1_0_0_n_n none v8
    (concatenate S256x256 0 [⟨S128x256, b0⟩, ⟨S128x256, b1⟩] concatenates_S128x256_S128x256_S256x256_d0)
    (constant S384x256 .f32 0x00000000#32)

/-- The block of outputs head `r = 2 q + k` stores. -/
def hOutY (v5 : FVec F S384x8 .f32) (s : FVec F S384x256 .f32) (r : ℕ) (h : r < 8) (k : ℕ) (hk : k < 2)
    (y : Vec F S1x384x128 .bf16) : FVec F S1x384x128 .bf16 :=
  shapeCast S1x384x128 (truncf .bf16 (addf (extf .f32 (shapeCast S384x128 y shapeCasts_S1x384x128_S384x128) bitsLt_bf16_f32)
    (mulf (extractStridedSlice S384x128 ![0, 128 * k] s (slicesHalf hk))
      (broadcastTo S384x128 (extractStridedSlice S384x1 ![0, r] v5 (slicesCol h)) broadcasts_S384x1_S384x128))) bitsLt_bf16_f32)
    shapeCasts_S384x128_S1x384x128

/-- The states of head `r` from the loads: the group's decays `v4`, its scales `v13`, the windows' codes and local states. -/
def headV (v4 : Vec F S1x384x8 .f32) (v13 : Vec F S1x8x256 .f32) (x4 : Vec F S1x8x128x256 .fp8e4m3)
    (x6 : Vec F S1x8x128x256 .f32) (r : ℕ) (h : r < 8) : FVec F S128x256 .f32 :=
  hV (k0_pay15 v4) (k0_pay16 v13) r h (View.ld x4 (Rect.unit (s := S1x8x128x256) ![0, r, 0, 0] S1x1x128x256.size (inbHead h)))
    (View.ld x6 (Rect.unit (s := S1x8x128x256) ![0, r, 0, 0] S1x1x128x256.size (inbHead h)))

/-- The bf16 initial states of head `r` from the loads. -/
def headB (v13 : Vec F S1x8x256 .f32) (x4 : Vec F S1x8x128x256 .fp8e4m3) (r : ℕ) (h : r < 8) : FVec F S128x256 .bf16 :=
  hB (k0_pay16 v13) r h (View.ld x4 (Rect.unit (s := S1x8x128x256) ![0, r, 0, 0] S1x1x128x256.size (inbHead h)))

/-- What head `r` stores of the outputs, from the loads: its pair's product, its half of it. -/
def headY (v4 : Vec F S1x384x8 .f32) (v7 : Vec F S1x384x256 .bf16) (v13 : Vec F S1x8x256 .f32) (x0 : Vec F S1x384x1024 .bf16)
    (x4 : Vec F S1x8x128x256 .fp8e4m3) (r : ℕ) (h : r < 8) : FVec F S1x384x128 .bf16 :=
  hOutY (k0_pay13 v4) (hDot (k0_pay14 v7) (headB v13 x4 (2 * (r / 2)) (by omega)) (headB v13 x4 (2 * (r / 2) + 1) (by omega)))
    r h (r % 2) (by omega) (View.ld x0 (Rect.unit (s := S1x384x1024) ![0, 0, 128 * r] S1x384x128.size (inbLane h)))

/-- The heads of a group, the newest first. -/
def heads : List (Fin 8) := [7, 6, 5, 4, 3, 2, 1, 0]

/-- Every head is in the list. -/
theorem mem_heads (r : Fin 8) : r ∈ heads := by revert r; decide

/-- One head's store of outputs. -/
def pieceY (v4 : Vec F S1x384x8 .f32) (v7 : Vec F S1x384x256 .bf16) (v13 : Vec F S1x8x256 .f32) (x0 : Vec F S1x384x1024 .bf16)
    (x4 : Vec F S1x8x128x256 .fp8e4m3) (r : Fin 8) : View.Piece (Elt F) S1x384x1024 .bf16 :=
  ⟨Rect.unit ![0, 0, 128 * r.val] S1x384x128.size (inbLane r.isLt), headY v4 v7 v13 x0 x4 r.val r.isLt⟩

/-- One head's store of codes. -/
def pieceC (v4 : Vec F S1x384x8 .f32) (v13 : Vec F S1x8x256 .f32) (x4 : Vec F S1x8x128x256 .fp8e4m3)
    (x6 : Vec F S1x8x128x256 .f32) (r : Fin 8) : View.Piece (Elt F) S1x8x128x256 .fp8e4m3 :=
  ⟨Rect.unit ![0, r.val, 0, 0] S1x1x128x256.size (inbHead r.isLt), hOutC (headV v4 v13 x4 x6 r.val r.isLt)⟩

/-- One head's store of its row of scales. -/
def pieceS (i : grid0.Coords) (v4 : Vec F S1x384x8 .f32) (v13 : Vec F S1x8x256 .f32) (x4 : Vec F S1x8x128x256 .fp8e4m3)
    (x6 : Vec F S1x8x128x256 .f32) (r : Fin 8) : View.Piece (Elt F) S1x32x256 .f32 :=
  ⟨Rect.unit (k0_off4 i (BitVec.ofNat 32 r.val)) S1x1x256.size (k0_off4_inb i r), hOutS (headV v4 v13 x4 x6 r.val r.isLt)⟩

/-- The group's outputs, the newest store first. -/
def piecesY (v4 : Vec F S1x384x8 .f32) (v7 : Vec F S1x384x256 .bf16) (v13 : Vec F S1x8x256 .f32) (x0 : Vec F S1x384x1024 .bf16)
    (x4 : Vec F S1x8x128x256 .fp8e4m3) : List (View.Piece (Elt F) S1x384x1024 .bf16) :=
  heads.map (pieceY v4 v7 v13 x0 x4)

/-- The group's codes, the newest store first. -/
def piecesC (v4 : Vec F S1x384x8 .f32) (v13 : Vec F S1x8x256 .f32) (x4 : Vec F S1x8x128x256 .fp8e4m3)
    (x6 : Vec F S1x8x128x256 .f32) : List (View.Piece (Elt F) S1x8x128x256 .fp8e4m3) :=
  heads.map (pieceC v4 v13 x4 x6)

/-- The group's rows of scales, the newest store first. -/
def piecesS (i : grid0.Coords) (v4 : Vec F S1x384x8 .f32) (v13 : Vec F S1x8x256 .f32) (x4 : Vec F S1x8x128x256 .fp8e4m3)
    (x6 : Vec F S1x8x128x256 .f32) : List (View.Piece (Elt F) S1x32x256 .f32) :=
  heads.map (pieceS i v4 v13 x4 x6)

/-- Group `g`'s slab of a scratch array of decays is inside it. -/
theorem inbDec {g : ℕ} (h : g < 4) : ∀ a, (![g, 0, 0] : Fin 3 → ℕ) a + S1x384x8.size a ≤ S4x384x8.size a :=
  fun a => by fin_cases a <;> simp <;> omega

/-- Group `g`'s slab of the scratch array of `C` is inside it. -/
theorem inbCs {g : ℕ} (h : g < 4) : ∀ a, (![g, 0, 0] : Fin 3 → ℕ) a + S1x384x256.size a ≤ S4x384x256.size a :=
  fun a => by fin_cases a <;> simp <;> omega

/-- Group `g`'s eight heads of the decays are inside them. -/
theorem slicesDec {g : ℕ} (h : g < 4) : S384x32.Slices ![0, 8 * g] S384x8 :=
  ⟨rfl, fun a => by fin_cases a <;> simp <;> omega⟩

/-- Group `g`'s slab of the window of `C` is inside it. -/
theorem inbC {g : ℕ} (h : g < 4) : ∀ a, (![0, 0, g, 0] : Fin 4 → ℕ) a + S1x384x1x256.size a ≤ S1x384x4x256.size a :=
  fun a => by fin_cases a <;> simp <;> omega

/-- The groups, the newest first. -/
def groups : List (Fin 4) := [3, 2, 1, 0]

/-- Every group is in the list. -/
theorem mem_groups (g : Fin 4) : g ∈ groups := by revert g; decide

/-- The decays of a batch from its windows of step sizes and of logarithms. -/
def decV (x2 : Vec F S1x32x384 .f32) (x3 : Vec F S1x32 .f32) : FVec F S384x32 .f32 :=
  k0_pay2 (View.ld x2 (Rect.unit (s := S1x32x384) ![0, 0, 0] S1x32x384.size inb_S1x32x384_S1x32x384_0_0_0))
    (View.ld x3 (Rect.unit (s := S1x32) ![0, 0] S1x32.size inb_S1x32_S1x32_0_0))

/-- A batch's stores of decays into the scratch, the newest first. -/
def piecesD (p : FVec F S384x32 .f32) : List (View.Piece (Elt F) S4x384x8 .f32) :=
  groups.map fun g => ⟨Rect.unit ![g.val, 0, 0] S1x384x8.size (inbDec g.isLt),
    shapeCast S1x384x8 (extractStridedSlice S384x8 ![0, 8 * g.val] p (slicesDec g.isLt)) shapeCasts_S384x8_S1x384x8⟩

/-- A batch's stores of `C` into the scratch, the newest first. -/
def piecesCs (x1 : Vec F S1x384x4x256 .bf16) : List (View.Piece (Elt F) S4x384x256 .bf16) :=
  groups.map fun g => ⟨Rect.unit ![g.val, 0, 0] S1x384x256.size (inbCs g.isLt),
    shapeCast S1x384x256 (shapeCast S384x256 (View.ld x1 (Rect.unit (s := S1x384x4x256) ![0, 0, g.val, 0] S1x384x1x256.size
      (inbC g.isLt))) shapeCasts_S1x384x1x256_S384x256) shapeCasts_S384x256_S1x384x256⟩

end Cert.K
-- ==== Proof.KScratch.lean ====
/- What a batch's stores leave in the two scratch arrays, read back. -/
module

public import proofs.«01_k».proof.Proof.KHead
public import Idealize.ShloMosaic.Lib.Pointwise

@[expose] public section

set_option maxRecDepth 16384

noncomputable section

namespace Cert.K

open Idealize.ShloMosaic Idealize.ShloMosaic.TcCoe Cert.KernelIdeal Cert.KernelIdeal.Gen

variable {F : FTy → Type} [FloatOps F]

/-- A batch's decays in the scratch's layout: group, step, head of the group. -/
def decAll (x2 : Vec F S1x32x384 .f32) (x3 : Vec F S1x32 .f32) : Vec F S4x384x8 .f32 :=
  fun j => shapeCast S1x384x8 (extractStridedSlice S384x8 ![0, 8 * (j 0).val] (decV x2 x3) (slicesDec (j 0).isLt))
    shapeCasts_S384x8_S1x384x8 (ix3 (0 : Fin 1) (j 1) (j 2))

/-- A batch's `C` in the scratch's layout: group, step, lane. -/
def cAll (x1 : Vec F S1x384x4x256 .bf16) : Vec F S4x384x256 .bf16 :=
  fun j => shapeCast S1x384x256 (shapeCast S384x256 (View.ld x1 (Rect.unit (s := S1x384x4x256) ![0, 0, (j 0).val, 0]
    S1x384x1x256.size (inbC (j 0).isLt))) shapeCasts_S1x384x1x256_S384x256) shapeCasts_S384x256_S1x384x256 (ix3 (0 : Fin 1) (j 1) (j 2))

/-- The stores of the decays leave the decays, whatever was there. -/
theorem read_piecesD {κ : Kind} {sp : Space} (v : View sig κ sp S4x384x8 .f32) (f : v.ty.Contents (Elt F))
    (x2 : Vec F S1x32x384 .f32) (x3 : Vec F S1x32 .f32) :
    v.read (Elt F) (v.writes (Elt F) f (piecesD (decV x2 x3))) = decAll x2 x3 := by
  funext y
  refine View.read_writes_apply_of_pieces v f (decAll x2 x3) _ ?_ y ?_
  · intro p hp x
    obtain ⟨g, -, rfl⟩ := List.mem_map.mp hp
    obtain ⟨a, b, c, rfl⟩ : ∃ (a : Fin 1) (b : Fin 384) (c : Fin 8), x = ix3 a b c := ⟨x 0, x 1, x 2, eq_ix3 x⟩
    obtain rfl : a = 0 := Subsingleton.elim _ _
    have e : (Rect.unit (s := S4x384x8) ![g.val, 0, 0] S1x384x8.size (inbDec g.isLt)).emb (ix3 0 b c) = ix3 g b c := by
      funext d
      refine Fin.ext ?_
      match d with
      | ⟨0, _⟩ => show g.val + 1 * 0 = g.val; omega
      | ⟨1, _⟩ => show 0 + 1 * b.val = b.val; omega
      | ⟨2, _⟩ => show 0 + 1 * c.val = c.val; omega
    show _ = decAll x2 x3 ((Rect.unit (s := S4x384x8) ![g.val, 0, 0] S1x384x8.size (inbDec g.isLt)).emb (ix3 0 b c))
    rw [e]
    rfl
  · refine ⟨_, List.mem_map.mpr ⟨y 0, mem_groups _, rfl⟩, ?_⟩
    rw [Rect.mem_set_unit]
    intro a
    have h1 := (y 1).isLt
    have h2 := (y 2).isLt
    fin_cases a <;> simp at h1 h2 ⊢ <;> omega

/-- The stores of `C` leave it, whatever was there. -/
theorem read_piecesCs {κ : Kind} {sp : Space} (v : View sig κ sp S4x384x256 .bf16) (f : v.ty.Contents (Elt F))
    (x1 : Vec F S1x384x4x256 .bf16) :
    v.read (Elt F) (v.writes (Elt F) f (piecesCs x1)) = cAll x1 := by
  funext y
  refine View.read_writes_apply_of_pieces v f (cAll x1) _ ?_ y ?_
  · intro p hp x
    obtain ⟨g, -, rfl⟩ := List.mem_map.mp hp
    obtain ⟨a, b, c, rfl⟩ : ∃ (a : Fin 1) (b : Fin 384) (c : Fin 256), x = ix3 a b c := ⟨x 0, x 1, x 2, eq_ix3 x⟩
    obtain rfl : a = 0 := Subsingleton.elim _ _
    have e : (Rect.unit (s := S4x384x256) ![g.val, 0, 0] S1x384x256.size (inbCs g.isLt)).emb (ix3 0 b c) = ix3 g b c := by
      funext d
      refine Fin.ext ?_
      match d with
      | ⟨0, _⟩ => show g.val + 1 * 0 = g.val; omega
      | ⟨1, _⟩ => show 0 + 1 * b.val = b.val; omega
      | ⟨2, _⟩ => show 0 + 1 * c.val = c.val; omega
    show _ = cAll x1 ((Rect.unit (s := S4x384x256) ![g.val, 0, 0] S1x384x256.size (inbCs g.isLt)).emb (ix3 0 b c))
    rw [e]
    rfl
  · refine ⟨_, List.mem_map.mpr ⟨y 0, mem_groups _, rfl⟩, ?_⟩
    rw [Rect.mem_set_unit]
    intro a
    have h1 := (y 1).isLt
    have h2 := (y 2).isLt
    fin_cases a <;> simp at h1 h2 ⊢ <;> omega

end Cert.K
-- ==== Proof.KOut.lean ====
/- What the heads' stores leave in the output windows, and the closed forms of the body's computed offsets. -/
module

public import proofs.«01_k».proof.Proof.KScratch

@[expose] public section

set_option maxRecDepth 16384

noncomputable section

namespace Cert.K

open Idealize.ShloMosaic Idealize.ShloMosaic.TcCoe Cert.KernelIdeal Cert.KernelIdeal.Gen

variable {F : FTy → Type} [FloatOps F]

/-- The group of a grid point is below four. -/
theorem grp_lt (i : grid0.Coords) : (i 1).val < 4 := (i 1).isLt

/-- The slab of decays the body loads is the group's. -/
theorem off1_eq (i : grid0.Coords) : k0_off1 i = ![(i 1).val, 0, 0] := by
  have h := grp_lt i
  unfold k0_off1
  generalize (i 1).val = g at h ⊢
  interval_cases g <;> rfl

/-- The slab of `C` the body loads is the group's. -/
theorem off2_eq (i : grid0.Coords) : k0_off2 i = ![(i 1).val, 0, 0] := by
  have h := grp_lt i
  unfold k0_off2
  generalize (i 1).val = g at h ⊢
  interval_cases g <;> rfl

/-- The rows of scales the body loads are the group's. -/
theorem off3_eq (i : grid0.Coords) : k0_off3 i = ![0, 8 * (i 1).val, 0] := by
  have h := grp_lt i
  unfold k0_off3
  generalize (i 1).val = g at h ⊢
  interval_cases g <;> rfl

/-- The row of scales head `r` stores is row `8 g + r`. -/
theorem off4_eq (i : grid0.Coords) (r : Fin 8) : k0_off4 i (BitVec.ofNat 32 r.val) = ![0, 8 * (i 1).val + r.val, 0] := by
  have h := grp_lt i
  unfold k0_off4
  generalize (i 1).val = g at h ⊢
  fin_cases r <;> interval_cases g <;> rfl

/-- The group's slab of decays. -/
def ldD (i : grid0.Coords) (D : Vec F S4x384x8 .f32) : Vec F S1x384x8 .f32 :=
  View.ld D (Rect.unit (s := S4x384x8) (k0_off1 i) S1x384x8.size (k0_off1_inb i))

/-- The group's slab of `C`. -/
def ldC (i : grid0.Coords) (C : Vec F S4x384x256 .bf16) : Vec F S1x384x256 .bf16 :=
  View.ld C (Rect.unit (s := S4x384x256) (k0_off2 i) S1x384x256.size (k0_off2_inb i))

/-- The group's rows of scales. -/
def ldX (i : grid0.Coords) (x5 : Vec F S1x32x256 .f32) : Vec F S1x8x256 .f32 :=
  View.ld x5 (Rect.unit (s := S1x32x256) (k0_off3 i) S1x8x256.size (k0_off3_inb i))

/-- The states of head `r` of the point's group. -/
def ptV (i : grid0.Coords) (D : Vec F S4x384x8 .f32) (x4 : Vec F S1x8x128x256 .fp8e4m3) (x5 : Vec F S1x32x256 .f32)
    (x6 : Vec F S1x8x128x256 .f32) (r : Fin 8) : FVec F S128x256 .f32 :=
  headV (ldD i D) (ldX i x5) x4 x6 r.val r.isLt

/-- The outputs the body leaves at a point. -/
def outY (i : grid0.Coords) (D : Vec F S4x384x8 .f32) (C : Vec F S4x384x256 .bf16) (x0 : Vec F S1x384x1024 .bf16)
    (x4 : Vec F S1x8x128x256 .fp8e4m3) (x5 : Vec F S1x32x256 .f32) : Vec F S1x384x1024 .bf16 :=
  fun j => headY (ldD i D) (ldC i C) (ldX i x5) x0 x4 ((j 2).val / 128) (by have : (j 2).val < 1024 := (j 2).isLt; omega)
    (ix3 (0 : Fin 1) (j 1) (⟨(j 2).val % 128, Nat.mod_lt _ (by decide)⟩ : Fin 128))

/-- The codes the body leaves at a point. -/
def outC (i : grid0.Coords) (D : Vec F S4x384x8 .f32) (x4 : Vec F S1x8x128x256 .fp8e4m3) (x5 : Vec F S1x32x256 .f32)
    (x6 : Vec F S1x8x128x256 .f32) : Vec F S1x8x128x256 .fp8e4m3 :=
  fun j => hOutC (ptV i D x4 x5 x6 (j 1)) (ix4 (0 : Fin 1) (0 : Fin 1) (j 2) (j 3))

/-- The stores of outputs leave the outputs, whatever was there. -/
theorem read_piecesY {κ : Kind} {sp : Space} (v : View sig κ sp S1x384x1024 .bf16) (f : v.ty.Contents (Elt F)) (i : grid0.Coords)
    (D : Vec F S4x384x8 .f32) (C : Vec F S4x384x256 .bf16) (x0 : Vec F S1x384x1024 .bf16)
    (x4 : Vec F S1x8x128x256 .fp8e4m3) (x5 : Vec F S1x32x256 .f32) :
    v.read (Elt F) (v.writes (Elt F) f (piecesY (ldD i D) (ldC i C) (ldX i x5) x0 x4)) = outY i D C x0 x4 x5 := by
  funext y
  refine View.read_writes_apply_of_pieces v f (outY i D C x0 x4 x5) _ ?_ y ?_
  · intro p hp x
    obtain ⟨r, -, rfl⟩ := List.mem_map.mp hp
    obtain ⟨a, b, c, rfl⟩ : ∃ (a : Fin 1) (b : Fin 384) (c : Fin 128), x = ix3 a b c := ⟨x 0, x 1, x 2, eq_ix3 x⟩
    obtain rfl : a = 0 := Subsingleton.elim _ _
    have e : (Rect.unit (s := S1x384x1024) ![0, 0, 128 * r.val] S1x384x128.size (inbLane r.isLt)).emb (ix3 0 b c)
        = ix3 (0 : Fin 1) b (⟨128 * r.val + c.val, by omega⟩ : Fin 1024) := by
      funext d
      refine Fin.ext ?_
      match d with
      | ⟨0, _⟩ => rfl
      | ⟨1, _⟩ => show 0 + 1 * b.val = b.val; omega
      | ⟨2, _⟩ => show 128 * r.val + 1 * c.val = 128 * r.val + c.val; omega
    show headY _ _ _ x0 x4 r.val r.isLt _ = outY i D C x0 x4 x5 ((Rect.unit (s := S1x384x1024) ![0, 0, 128 * r.val] S1x384x128.size (inbLane r.isLt)).emb (ix3 0 b c))
    rw [e]
    have e1 : (128 * r.val + c.val) / 128 = r.val := by omega
    have e2 : (128 * r.val + c.val) % 128 = c.val := by omega
    unfold outY
    show _ = headY (ldD i D) (ldC i C) (ldX i x5) x0 x4 ((128 * r.val + c.val) / 128) _ (ix3 (0 : Fin 1) b (⟨(128 * r.val + c.val) % 128, _⟩ : Fin 128))
    congr 1
    · congr 1; exact e1.symm
    · congr 1; exact Fin.ext e2.symm
  · have h2 : (y 2).val < 1024 := (y 2).isLt
    refine ⟨_, List.mem_map.mpr ⟨(⟨(y 2).val / 128, by omega⟩ : Fin 8), mem_heads _, rfl⟩, ?_⟩
    unfold pieceY
    rw [Rect.mem_set_unit]
    intro a
    have h0 : (y 0).val < 1 := (y 0).isLt
    have h1 : (y 1).val < 384 := (y 1).isLt
    match a with
    | ⟨0, _⟩ => show 0 ≤ (y 0).val ∧ (y 0).val < 0 + 1; omega
    | ⟨1, _⟩ => show 0 ≤ (y 1).val ∧ (y 1).val < 0 + 384; omega
    | ⟨2, _⟩ => show 128 * ((y 2).val / 128) ≤ (y 2).val ∧ (y 2).val < 128 * ((y 2).val / 128) + 128; omega

/-- The stores of codes leave the codes, whatever was there. -/
theorem read_piecesC {κ : Kind} {sp : Space} (v : View sig κ sp S1x8x128x256 .fp8e4m3) (f : v.ty.Contents (Elt F)) (i : grid0.Coords)
    (D : Vec F S4x384x8 .f32) (x4 : Vec F S1x8x128x256 .fp8e4m3) (x5 : Vec F S1x32x256 .f32) (x6 : Vec F S1x8x128x256 .f32) :
    v.read (Elt F) (v.writes (Elt F) f (piecesC (ldD i D) (ldX i x5) x4 x6)) = outC i D x4 x5 x6 := by
  funext y
  refine View.read_writes_apply_of_pieces v f (outC i D x4 x5 x6) _ ?_ y ?_
  · intro p hp x
    obtain ⟨r, -, rfl⟩ := List.mem_map.mp hp
    obtain ⟨a, a', b, c, rfl⟩ : ∃ (a : Fin 1) (a' : Fin 1) (b : Fin 128) (c : Fin 256), x = ix4 a a' b c :=
      ⟨x 0, x 1, x 2, x 3, eq_ix4 x⟩
    obtain rfl : a = 0 := Subsingleton.elim _ _
    obtain rfl : a' = 0 := Subsingleton.elim _ _
    have e : (Rect.unit (s := S1x8x128x256) ![0, r.val, 0, 0] S1x1x128x256.size (inbHead r.isLt)).emb (ix4 0 0 b c)
        = ix4 (0 : Fin 1) r b c := by
      funext d
      refine Fin.ext ?_
      match d with
      | ⟨0, _⟩ => rfl
      | ⟨1, _⟩ => show r.val + 1 * 0 = r.val; omega
      | ⟨2, _⟩ => show 0 + 1 * b.val = b.val; omega
      | ⟨3, _⟩ => show 0 + 1 * c.val = c.val; omega
    show _ = outC i D x4 x5 x6 ((Rect.unit (s := S1x8x128x256) ![0, r.val, 0, 0] S1x1x128x256.size (inbHead r.isLt)).emb (ix4 0 0 b c))
    rw [e]
    rfl
  · refine ⟨_, List.mem_map.mpr ⟨y 1, mem_heads _, rfl⟩, ?_⟩
    unfold pieceC
    rw [Rect.mem_set_unit]
    intro a
    have h0 : (y 0).val < 1 := (y 0).isLt
    have h2 : (y 2).val < 128 := (y 2).isLt
    have h3 : (y 3).val < 256 := (y 3).isLt
    match a with
    | ⟨0, _⟩ => show 0 ≤ (y 0).val ∧ (y 0).val < 0 + 1; omega
    | ⟨1, _⟩ => show (y 1).val ≤ (y 1).val ∧ (y 1).val < (y 1).val + 1; omega
    | ⟨2, _⟩ => show 0 ≤ (y 2).val ∧ (y 2).val < 0 + 128; omega
    | ⟨3, _⟩ => show 0 ≤ (y 3).val ∧ (y 3).val < 0 + 256; omega

/-- The stores of scales leave row `8 g + r` at head `r`'s scales. -/
theorem read_piecesS_hit {κ : Kind} {sp : Space} (v : View sig κ sp S1x32x256 .f32) (f : v.ty.Contents (Elt F)) (i : grid0.Coords)
    (D : Vec F S4x384x8 .f32) (x4 : Vec F S1x8x128x256 .fp8e4m3) (x5 : Vec F S1x32x256 .f32) (x6 : Vec F S1x8x128x256 .f32)
    (r : Fin 8) (row : Fin 32) (n : Fin 256) (hrow : row.val = 8 * (i 1).val + r.val) :
    v.read (Elt F) (v.writes (Elt F) f (piecesS i (ldD i D) (ldX i x5) x4 x6)) (ix3 (0 : Fin 1) row n)
      = hOutS (ptV i D x4 x5 x6 r) (ix3 (0 : Fin 1) (0 : Fin 1) n) := by
  refine (View.read_writes_apply_of_pieces v f (fun y => hOutS (ptV i D x4 x5 x6 (⟨(y 1).val % 8, Nat.mod_lt _ (by decide)⟩ : Fin 8))
    (ix3 (0 : Fin 1) (0 : Fin 1) (y 2))) _ ?_ (ix3 (0 : Fin 1) row n) ?_).trans ?_
  · intro p hp x
    obtain ⟨r, -, rfl⟩ := List.mem_map.mp hp
    obtain ⟨a, a', c, rfl⟩ : ∃ (a : Fin 1) (a' : Fin 1) (c : Fin 256), x = ix3 a a' c := ⟨x 0, x 1, x 2, eq_ix3 x⟩
    obtain rfl : a = 0 := Subsingleton.elim _ _
    obtain rfl : a' = 0 := Subsingleton.elim _ _
    have e1 : ((Rect.unit (s := S1x32x256) (k0_off4 i (BitVec.ofNat 32 r.val)) S1x1x256.size (k0_off4_inb i r)).emb (ix3 0 0 c) 1).val
        = 8 * (i 1).val + r.val := by
      show k0_off4 i (BitVec.ofNat 32 r.val) 1 + 1 * 0 = _
      rw [off4_eq]; rfl
    have e2 : (Rect.unit (s := S1x32x256) (k0_off4 i (BitVec.ofNat 32 r.val)) S1x1x256.size (k0_off4_inb i r)).emb (ix3 0 0 c) 2 = c := by
      refine Fin.ext ?_
      show k0_off4 i (BitVec.ofNat 32 r.val) 2 + 1 * c.val = _
      rw [off4_eq]; show 0 + 1 * c.val = c.val; omega
    show hOutS (ptV i D x4 x5 x6 r) (ix3 0 0 c) = hOutS (ptV i D x4 x5 x6 ⟨((Rect.unit (s := S1x32x256) (k0_off4 i (BitVec.ofNat 32 r.val)) S1x1x256.size (k0_off4_inb i r)).emb (ix3 0 0 c) 1).val % 8, _⟩)
      (ix3 0 0 ((Rect.unit (s := S1x32x256) (k0_off4 i (BitVec.ofNat 32 r.val)) S1x1x256.size (k0_off4_inb i r)).emb (ix3 0 0 c) 2))
    rw [e2]
    congr 2
    refine Fin.ext ?_
    show r.val = _ % 8
    rw [e1]; omega
  · refine ⟨_, List.mem_map.mpr ⟨r, mem_heads _, rfl⟩, ?_⟩
    unfold pieceS
    rw [Rect.mem_set_unit, off4_eq]
    intro a
    have h2 := n.isLt
    match a with
    | ⟨0, _⟩ => show 0 ≤ 0 ∧ 0 < 0 + 1; omega
    | ⟨1, _⟩ => show 8 * (i 1).val + r.val ≤ row.val ∧ row.val < 8 * (i 1).val + r.val + 1; omega
    | ⟨2, _⟩ => show 0 ≤ n.val ∧ n.val < 0 + 256; omega
  · show hOutS (ptV i D x4 x5 x6 ⟨row.val % 8, _⟩) (ix3 0 0 n) = _
    congr 2
    exact Fin.ext (by show row.val % 8 = r.val; omega)

/-- The stores of scales leave the rows of the other groups as they were. -/
theorem read_piecesS_miss {κ : Kind} {sp : Space} (v : View sig κ sp S1x32x256 .f32) (f : v.ty.Contents (Elt F)) (i : grid0.Coords)
    (D : Vec F S4x384x8 .f32) (x4 : Vec F S1x8x128x256 .fp8e4m3) (x5 : Vec F S1x32x256 .f32) (x6 : Vec F S1x8x128x256 .f32)
    (row : Fin 32) (n : Fin 256) (hrow : row.val < 8 * (i 1).val) :
    v.read (Elt F) (v.writes (Elt F) f (piecesS i (ldD i D) (ldX i x5) x4 x6)) (ix3 (0 : Fin 1) row n)
      = v.read (Elt F) f (ix3 (0 : Fin 1) row n) := by
  refine View.read_writes_apply_of_forall_not_mem v f _ _ ?_
  intro p hp
  obtain ⟨r, -, rfl⟩ := List.mem_map.mp hp
  unfold pieceS
  rw [Rect.mem_set_unit, off4_eq]
  intro hall
  have h : 8 * (i 1).val + r.val ≤ row.val := (hall 1).1
  omega

end Cert.K
-- ==== Proof.KRunA.lean ====
/- The body run at a batch's first group: the scratch is filled, the outputs are what the heads store. -/
module

public import proofs.«01_k».proof.Proof.KScratch

@[expose] public section

set_option maxRecDepth 16384

noncomputable section

namespace Cert.KernelIdeal.Gen

open Idealize.ShloMosaic Idealize.ShloMosaic.TcCoe Idealize.ShloMosaic.Tactic
open Cert.K
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body at a batch's first group: it fills the scratch with the batch's decays and `C`, and stores the heads' outputs, codes and rows of scales. -/
theorem runA (c : Dev nD) (i : grid0.Coords) (arg2 : Memref sig .tc .vmem S1x384x1024 .bf16) (harg2 : arg2.IsWhole) (arg3 : Memref sig .tc .vmem S1x384x4x256 .bf16) (harg3 : arg3.IsWhole) (arg4 : Memref sig .tc .vmem S1x32x384 .f32) (harg4 : arg4.IsWhole) (arg5 : Memref sig .tc .vmem S1x32 .f32) (harg5 : arg5.IsWhole) (arg6 : Memref sig .tc .vmem S1x8x128x256 .fp8e4m3) (harg6 : arg6.IsWhole) (arg7 : Memref sig .tc .vmem S1x32x256 .f32) (harg7 : arg7.IsWhole) (arg8 : Memref sig .tc .vmem S1x8x128x256 .f32) (harg8 : arg8.IsWhole) (arg9 : Memref sig .tc .vmem S1x384x1024 .bf16) (harg9 : arg9.IsWhole) (arg10 : Memref sig .tc .vmem S1x8x128x256 .fp8e4m3) (harg10 : arg10.IsWhole) (arg11 : Memref sig .tc .vmem S1x32x256 .f32) (harg11 : arg11.IsWhole) (arg12 : Memref sig .tc .vmem S4x384x8 .f32) (harg12 : arg12.IsWhole) (arg13 : Memref sig .tc .vmem S4x384x256 .bf16) (harg13 : arg13.IsWhole) (hc0 : cond0_0 i)
    (x0 : Vec F S1x384x1024 .bf16) (x1 : Vec F S1x384x4x256 .bf16) (x2 : Vec F S1x32x384 .f32) (x3 : Vec F S1x32 .f32) (x4 : Vec F S1x8x128x256 .fp8e4m3) (x5 : Vec F S1x32x256 .f32) (x6 : Vec F S1x8x128x256 .f32) (d9 : Vec F S1x32x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare d9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, owns (c : Thread nD τ) arg9 fullShare (arg9.view.read (Elt F) (arg9.view.writes (Elt F) f (piecesY (View.ld (decAll x2 x3) (Rect.unit (s := S4x384x8) (k0_off1 i) S1x384x8.size (k0_off1_inb i))) (View.ld (cAll x1) (Rect.unit (s := S4x384x256) (k0_off2 i) S1x384x256.size (k0_off2_inb i))) (View.ld x5 (Rect.unit (s := S1x32x256) (k0_off3 i) S1x8x256.size (k0_off3_inb i))) x0 x4)))) ∗ (∃ f, owns (c : Thread nD τ) arg10 fullShare (arg10.view.read (Elt F) (arg10.view.writes (Elt F) f (piecesC (View.ld (decAll x2 x3) (Rect.unit (s := S4x384x8) (k0_off1 i) S1x384x8.size (k0_off1_inb i))) (View.ld x5 (Rect.unit (s := S1x32x256) (k0_off3 i) S1x8x256.size (k0_off3_inb i))) x4 x6)))) ∗ (∃ f, ⌜arg11.view.read (Elt F) f = d9⌝ ∗ owns (c : Thread nD τ) arg11 fullShare (arg11.view.read (Elt F) (arg11.view.writes (Elt F) f (piecesS i (View.ld (decAll x2 x3) (Rect.unit (s := S4x384x8) (k0_off1 i) S1x384x8.size (k0_off1_inb i))) (View.ld x5 (Rect.unit (s := S1x32x256) (k0_off3 i) S1x8x256.size (k0_off3_inb i))) x4 x6)))) ∗ owns (c : Thread nD τ) arg12 fullShare (decAll x2 x3) ∗ owns (c : Thread nD τ) arg13 fullShare (cAll x1)) -∗ K ⟨⟩))
          ⊢ wp frame (wpE (defs₀ (F := F)) Variants.none c none) E (cc0_carry_correction i arg2 harg2 arg3 harg3 arg4 harg4 arg5 harg5 arg6 harg6 arg7 harg7 arg8 harg8 arg9 harg9 arg10 harg10 arg11 harg11 arg12 harg12 arg13 harg13) K := by
    intro E K
    simp only [cc0_carry_correction_eq_skeleton]; unfold cc0_carry_correction_skel
    simp only [k0_part22_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds0, %fs0, -, HS0⟩, ⟨%ds1, %fs1, -, HS1⟩, Hk⟩
    subst hf0; subst hf1; subst hf2; subst hf3; subst hf4; subst hf5; subst hf6; subst hf9
    sl_exec (disch := first | sl_exact hc0)
    sl_step
    iapply Hk

    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists f7, _; isplitr; swap; · iexact H7
      ipureintro; rw [← read_piecesD arg12.view _ , ← read_piecesCs arg13.view _ ]; rfl
    isplitl [H8]
    · iexists f8, _; isplitr; swap; · iexact H8
      ipureintro; rw [← read_piecesD arg12.view _ ]; rfl
    isplitl [H9]
    · iexists f9; isplitr; · ipureintro; rfl
      iexists _; isplitr; swap; · iexact H9
      ipureintro; rw [← read_piecesD arg12.view _ ]; rfl
    isplitl [HS0]
    · iexists _; isplitr; swap; · iexact HS0
      ipureintro; exact read_piecesD arg12.view _ _ _
    iexists _; isplitr; swap; · iexact HS1
    ipureintro; exact read_piecesCs arg13.view _ _

end Cert.KernelIdeal.Gen

end
-- ==== Proof.KRunB.lean ====
/- The body run at a batch's later groups: the scratch is read as it was left, the outputs are what the heads store. -/
module

public import proofs.«01_k».proof.Proof.KHead

@[expose] public section

set_option maxRecDepth 16384

noncomputable section

namespace Cert.KernelIdeal.Gen

open Idealize.ShloMosaic Idealize.ShloMosaic.TcCoe Idealize.ShloMosaic.Tactic
open Cert.K
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body at a batch's later groups: the scratch, at `D` and `C`, is as it was; it stores the heads' outputs, codes and rows of scales. -/
theorem runB (c : Dev nD) (i : grid0.Coords) (arg2 : Memref sig .tc .vmem S1x384x1024 .bf16) (harg2 : arg2.IsWhole) (arg3 : Memref sig .tc .vmem S1x384x4x256 .bf16) (harg3 : arg3.IsWhole) (arg4 : Memref sig .tc .vmem S1x32x384 .f32) (harg4 : arg4.IsWhole) (arg5 : Memref sig .tc .vmem S1x32 .f32) (harg5 : arg5.IsWhole) (arg6 : Memref sig .tc .vmem S1x8x128x256 .fp8e4m3) (harg6 : arg6.IsWhole) (arg7 : Memref sig .tc .vmem S1x32x256 .f32) (harg7 : arg7.IsWhole) (arg8 : Memref sig .tc .vmem S1x8x128x256 .f32) (harg8 : arg8.IsWhole) (arg9 : Memref sig .tc .vmem S1x384x1024 .bf16) (harg9 : arg9.IsWhole) (arg10 : Memref sig .tc .vmem S1x8x128x256 .fp8e4m3) (harg10 : arg10.IsWhole) (arg11 : Memref sig .tc .vmem S1x32x256 .f32) (harg11 : arg11.IsWhole) (arg12 : Memref sig .tc .vmem S4x384x8 .f32) (harg12 : arg12.IsWhole) (arg13 : Memref sig .tc .vmem S4x384x256 .bf16) (harg13 : arg13.IsWhole) (hc0 : ¬cond0_0 i)
    (x0 : Vec F S1x384x1024 .bf16) (x1 : Vec F S1x384x4x256 .bf16) (x2 : Vec F S1x32x384 .f32) (x3 : Vec F S1x32 .f32) (x4 : Vec F S1x8x128x256 .fp8e4m3) (x5 : Vec F S1x32x256 .f32) (x6 : Vec F S1x8x128x256 .f32) (d9 : Vec F S1x32x256 .f32) (D : Vec F S4x384x8 .f32) (C : Vec F S4x384x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare d9 ∗ owns (c : Thread nD τ) arg12 fullShare D ∗ owns (c : Thread nD τ) arg13 fullShare C
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, owns (c : Thread nD τ) arg9 fullShare (arg9.view.read (Elt F) (arg9.view.writes (Elt F) f (piecesY (View.ld D (Rect.unit (s := S4x384x8) (k0_off1 i) S1x384x8.size (k0_off1_inb i))) (View.ld C (Rect.unit (s := S4x384x256) (k0_off2 i) S1x384x256.size (k0_off2_inb i))) (View.ld x5 (Rect.unit (s := S1x32x256) (k0_off3 i) S1x8x256.size (k0_off3_inb i))) x0 x4)))) ∗ (∃ f, owns (c : Thread nD τ) arg10 fullShare (arg10.view.read (Elt F) (arg10.view.writes (Elt F) f (piecesC (View.ld D (Rect.unit (s := S4x384x8) (k0_off1 i) S1x384x8.size (k0_off1_inb i))) (View.ld x5 (Rect.unit (s := S1x32x256) (k0_off3 i) S1x8x256.size (k0_off3_inb i))) x4 x6)))) ∗ (∃ f, ⌜arg11.view.read (Elt F) f = d9⌝ ∗ owns (c : Thread nD τ) arg11 fullShare (arg11.view.read (Elt F) (arg11.view.writes (Elt F) f (piecesS i (View.ld D (Rect.unit (s := S4x384x8) (k0_off1 i) S1x384x8.size (k0_off1_inb i))) (View.ld x5 (Rect.unit (s := S1x32x256) (k0_off3 i) S1x8x256.size (k0_off3_inb i))) x4 x6)))) ∗ owns (c : Thread nD τ) arg12 fullShare D ∗ owns (c : Thread nD τ) arg13 fullShare C) -∗ K ⟨⟩))
          ⊢ wp frame (wpE (defs₀ (F := F)) Variants.none c none) E (cc0_carry_correction i arg2 harg2 arg3 harg3 arg4 harg4 arg5 harg5 arg6 harg6 arg7 harg7 arg8 harg8 arg9 harg9 arg10 harg10 arg11 harg11 arg12 harg12 arg13 harg13) K := by
    intro E K
    simp only [cc0_carry_correction_eq_skeleton]; unfold cc0_carry_correction_skel
    simp only [k0_part22_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs0, %hfs0, HS0⟩, ⟨%fs1, %hfs1, HS1⟩, Hk⟩
    subst hf0; subst hf1; subst hf2; subst hf3; subst hf4; subst hf5; subst hf6; subst hf9; subst hfs0; subst hfs1
    sl_exec (disch := first | sl_exact hc0)
    sl_step
    iapply Hk

    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists f7, _; isplitr; swap; · iexact H7
      ipureintro; rfl
    isplitl [H8]
    · iexists f8, _; isplitr; swap; · iexact H8
      ipureintro; rfl
    isplitl [H9]
    · iexists f9; isplitr; · ipureintro; rfl
      iexists _; isplitr; swap; · iexact H9
      ipureintro; rfl
    isplitl [HS0]
    · iexists _; isplitr; swap; · iexact HS0
      ipureintro; rfl
    iexists _; isplitr; swap; · iexact HS1
    ipureintro; rfl

end Cert.KernelIdeal.Gen

end
-- ==== Proof.KData.lean ====
/- The pipeline's proof data: the scratch tracked through a batch, the outputs named, the rows of scales named up to the point's group. -/
module

public import proofs.«01_k».proof.Proof.KOut
public import proofs.«01_k».proof.Proof.KRunA
public import proofs.«01_k».proof.Proof.KRunB
public import Idealize.ShloMosaic.Lib.Pipeline.DatRel

@[expose] public section

set_option maxRecDepth 16384

noncomputable section

namespace Cert.KernelIdeal.Gen

open Idealize.ShloMosaic Idealize.ShloMosaic.TcCoe Idealize.ShloMosaic.Tactic
open Cert.K
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The point of group `k` in the batch of point `n`. -/
def bpt (n k : ℕ) : Fin cfg0.N := ⟨(4 * (n / 4) + k % 4) % 20, by rw [show cfg0.N = 20 from N_0]; omega⟩

/-- A point is its batch's point of its own group. -/
theorem bpt_self (t : Fin cfg0.N) : bpt t.val (t.val % 4) = t := by
  have hN : t.val < 20 := lt_of_lt_of_eq t.isLt (show cfg0.N = 20 from N_0)
  exact Fin.ext (by show (4 * (t.val / 4) + t.val % 4 % 4) % 20 = t.val; omega)

/-- A point's second coordinate is its group. -/
theorem coord1 (t : Fin cfg0.N) : (grid0.coords t 1).val = t.val % 4 := by
  have e1 : (grid0.coords t 1).val = t.val / 1 % 4 := Pipeline.Grid.coords_val t 1 (by decide) rfl
  omega

/-- A point's first coordinate is its batch. -/
theorem coord0 (t : Fin cfg0.N) : (grid0.coords t 0).val = t.val / 4 := by
  have hN : t.val < 20 := lt_of_lt_of_eq t.isLt (show cfg0.N = 20 from N_0)
  have e1 : (grid0.coords t 0).val = t.val / 4 % 5 := Pipeline.Grid.coords_val t 0 (by decide) rfl
  omega

/-- The decays of the batch of point `n`. -/
def ptD (c : Dev nD) (n : ℕ) : Vec F S4x384x8 .f32 := decAll (iblk m c 2 (bpt n 0)) (iblk m c 3 (bpt n 0))

/-- `C` of the batch of point `n`. -/
def ptC (c : Dev nD) (n : ℕ) : Vec F S4x384x256 .bf16 := cAll (iblk m c 1 (bpt n 0))

/-- The outputs point `t` leaves. -/
def ptY (c : Dev nD) (t : Fin cfg0.N) : Vec F S1x384x1024 .bf16 :=
  outY (grid0.coords t) (ptD m c t.val) (ptC m c t.val) (iblk m c 0 t) (iblk m c 4 t) (iblk m c 5 t)

/-- The codes point `t` leaves. -/
def ptQ (c : Dev nD) (t : Fin cfg0.N) : Vec F S1x8x128x256 .fp8e4m3 :=
  outC (grid0.coords t) (ptD m c t.val) (iblk m c 4 t) (iblk m c 5 t) (iblk m c 6 t)

/-- The scale head `r` stores at point `u` under the decays `D`, lane `n`. -/
def ptSAt (c : Dev nD) (u : Fin cfg0.N) (D : Vec F S4x384x8 .f32) (r : Fin 8) (n : Fin 256) : F .f32 :=
  hOutS (ptV (grid0.coords u) D (iblk m c 4 u) (iblk m c 5 u) (iblk m c 6 u) r) (ix3 (0 : Fin 1) (0 : Fin 1) n)

/-- The scale at row `row`, lane `n`, of the batch of point `k`: stored at the point of the row's group. -/
def ptS (c : Dev nD) (k : ℕ) (row : Fin 32) (n : Fin 256) : F .f32 :=
  ptSAt m c (bpt k (row.val / 8)) (ptD m c k) (⟨row.val % 8, Nat.mod_lt _ (by decide)⟩ : Fin 8) n

/-! ## The pipeline's proof data -/

/-- The output windows held to a predicate. -/
def marks0 : Fin 10 → Bool := fun w => w.val == 7 || w.val == 8 || w.val == 9

/-- What the body may leave in the marked windows: the outputs and the codes of the point, and the rows of scales of the groups so far. -/
def Rl0 (c : Dev nD) (w : Fin cfg0.W) (t : Fin cfg0.N) : ((cfg0.win w).block.Idx → Elt F (cfg0.win w).elt) → Prop :=
  match w with
  | ⟨7, _⟩ => fun X => X = ptY m c t
  | ⟨8, _⟩ => fun X => X = ptQ m c t
  | ⟨9, _⟩ => fun X => ∀ (row : Fin 32) (n : Fin 256), row.val < 8 * (t.val % 4) + 8 → X (ix3 (0 : Fin 1) row n) = ptS m c t.val row n
  | _ => fun _ => True

/-- The invariant before point `n`: inside a batch the scratch holds the batch's decays and `C`; between batches, anything. -/
def Phi0 (c : Dev nD) (n : ℕ) : sProp 𝕄 :=
  if n % 4 = 0 then Pipeline.ΦA spec0 c
  else iprop((owns (c : Thread nD τ) scM0_0 fullShare (ptD m c n) ∗ owns (c : Thread nD τ) scM0_1 fullShare (ptC m c n)) ∗ (∃ r, prngReg c r))

/-- The proof data of the pipeline on core `c`: the arrays as the region finds them; each input at its block; the marked outputs unnamed;
    the scratch tracked by `Phi0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := Phi0 m c t.val
  q _ := fullShare
  owed _ := 0

/-- The data read relationally, the marked windows held to `Rl0`. -/
abbrev rdat (c : Dev nD) : Pipeline.RDat τ (Elt F) Unit ℕ (UR sig nD τ) ℕ cfg0 c := (dats m 0 c).toRRel marks0 (Rl0 m c)

/-- The proof data's arrays are the region-entry contents. -/
theorem A_eq (c : Dev nD) (w : Fin cfg0.W) : (dats m 0 c).A w = V m c (Pipeline.arrRef spec0 w) := by
  dsimp only [dats]

/-- The body leaves input 0's block. -/
theorem after0_0 (c : Dev nD) (t : Fin cfg0.N) : (dats m 0 c).after 0 t = iblk m c 0 t := by dsimp only [dats]
/-- The body finds input 0's block. -/
theorem before0_0 (c : Dev nD) (t : Fin cfg0.N) (d) : (dats m 0 c).before 0 t d = iblk m c 0 t :=
  before0_0_of m (dats m 0 c) (A_eq m c 0) (after0_0 m c) t d

/-- The body leaves input 1's block. -/
theorem after0_1 (c : Dev nD) (t : Fin cfg0.N) : (dats m 0 c).after 1 t = iblk m c 1 t := by dsimp only [dats]
/-- The body finds input 1's block. -/
theorem before0_1 (c : Dev nD) (t : Fin cfg0.N) (d) : (dats m 0 c).before 1 t d = iblk m c 1 t :=
  before0_1_of m (dats m 0 c) (A_eq m c 1) (after0_1 m c) t d

/-- The body leaves input 2's block. -/
theorem after0_2 (c : Dev nD) (t : Fin cfg0.N) : (dats m 0 c).after 2 t = iblk m c 2 t := by dsimp only [dats]
/-- The body finds input 2's block. -/
theorem before0_2 (c : Dev nD) (t : Fin cfg0.N) (d) : (dats m 0 c).before 2 t d = iblk m c 2 t :=
  before0_2_of m (dats m 0 c) (A_eq m c 2) (after0_2 m c) t d

/-- The body leaves input 3's block. -/
theorem after0_3 (c : Dev nD) (t : Fin cfg0.N) : (dats m 0 c).after 3 t = iblk m c 3 t := by dsimp only [dats]
/-- The body finds input 3's block. -/
theorem before0_3 (c : Dev nD) (t : Fin cfg0.N) (d) : (dats m 0 c).before 3 t d = iblk m c 3 t :=
  before0_3_of m (dats m 0 c) (A_eq m c 3) (after0_3 m c) t d

/-- The body leaves input 4's block. -/
theorem after0_4 (c : Dev nD) (t : Fin cfg0.N) : (dats m 0 c).after 4 t = iblk m c 4 t := by dsimp only [dats]
/-- The body finds input 4's block. -/
theorem before0_4 (c : Dev nD) (t : Fin cfg0.N) (d) : (dats m 0 c).before 4 t d = iblk m c 4 t :=
  before0_4_of m (dats m 0 c) (A_eq m c 4) (after0_4 m c) t d

/-- The body leaves input 5's block. -/
theorem after0_5 (c : Dev nD) (t : Fin cfg0.N) : (dats m 0 c).after 5 t = iblk m c 5 t := by dsimp only [dats]
/-- The body finds input 5's block. -/
theorem before0_5 (c : Dev nD) (t : Fin cfg0.N) (d) : (dats m 0 c).before 5 t d = iblk m c 5 t :=
  before0_5_of m (dats m 0 c) (A_eq m c 5) (after0_5 m c) t d

/-- The body leaves input 6's block. -/
theorem after0_6 (c : Dev nD) (t : Fin cfg0.N) : (dats m 0 c).after 6 t = iblk m c 6 t := by dsimp only [dats]
/-- The body finds input 6's block. -/
theorem before0_6 (c : Dev nD) (t : Fin cfg0.N) (d) : (dats m 0 c).before 6 t d = iblk m c 6 t :=
  before0_6_of m (dats m 0 c) (A_eq m c 6) (after0_6 m c) t d

/-- Between batches the invariant is the class's. -/
theorem Phi0_zero (c : Dev nD) (n : ℕ) (h : n % 4 = 0) : Phi0 m c n
    = iprop(iprop((∃ d, owns (c : Thread nD τ) scM0_0 fullShare d) ∗ (∃ d, owns (c : Thread nD τ) scM0_1 fullShare d)) ∗ (∃ r, prngReg c r)) := by
  rw [← PhiA0_eq]; exact if_pos h

/-- Inside a batch it names the scratch. -/
theorem Phi0_pos (c : Dev nD) (n : ℕ) (h : n % 4 ≠ 0) : Phi0 m c n
    = iprop((owns (c : Thread nD τ) scM0_0 fullShare (ptD m c n) ∗ owns (c : Thread nD τ) scM0_1 fullShare (ptC m c n)) ∗ (∃ r, prngReg c r)) :=
  if_neg h

/-- After a point the scratch, at the batch's decays and `C`, is the next point's invariant. -/
theorem Phi0_succ (c : Dev nD) (n : ℕ) :
    iprop((owns (c : Thread nD τ) scM0_0 fullShare (ptD m c n) ∗ owns (c : Thread nD τ) scM0_1 fullShare (ptC m c n)) ∗ (∃ r, prngReg c r))
      ⊢ Phi0 m c (n + 1) := by
  by_cases h : (n + 1) % 4 = 0
  · rw [Phi0_zero m c _ h]
    iintro ⟨⟨H0, H1⟩, Hg⟩
    isplitl [H0 H1]
    · isplitl [H0]
      · iexists _; iexact H0
      iexists _; iexact H1
    iexact Hg
  · rw [Phi0_pos m c _ h]
    have e : ∀ k, bpt (n + 1) k = bpt n k := fun k => Fin.ext (by
      show (4 * ((n + 1) / 4) + k % 4) % 20 = (4 * (n / 4) + k % 4) % 20
      rw [show (n + 1) / 4 = n / 4 by omega])
    unfold ptD ptC
    rw [e]

/-- What a point finds in the window of scales: the rows of its batch's earlier groups. -/
theorem finds9 (c : Dev nD) (t : Fin cfg0.N) (X : Vec F S1x32x256 .f32) (h : (rdat m c).Finds 9 t X) (row : Fin 32) (n : Fin 256)
    (hrow : row.val < 8 * (t.val % 4)) : X (ix3 (0 : Fin 1) row n) = ptS m c t.val row n := by
  have hN : t.val < 20 := lt_of_lt_of_eq t.isLt (show cfg0.N = 20 from N_0)
  have h0 : t.val ≠ 0 := by omega
  have hf : (cfg0.win 9).fetch t = false := rfl
  rcases ((rdat m c).finds_of_pos hf h0 X).mp h with hfl | hL
  · have := (flush0_9 _).mp hfl
    dsimp only at this
    omega
  · have hR := (dats m 0 c).toRRel_leaves (w := 9) rfl hL
    have hR' : ∀ (row : Fin 32) (n : Fin 256), row.val < 8 * ((t.val - 1) % 4) + 8 → X (ix3 (0 : Fin 1) row n) = ptS m c (t.val - 1) row n := hR
    rw [hR' row n (by omega)]
    have e : ∀ k, bpt (t.val - 1) k = bpt t.val k := fun k => Fin.ext (by
      show (4 * ((t.val - 1) / 4) + k % 4) % 20 = (4 * (t.val / 4) + k % 4) % 20
      rw [show (t.val - 1) / 4 = t.val / 4 by omega])
    have eD : ptD m c (t.val - 1) = ptD m c t.val := by unfold ptD; rw [e]
    unfold ptS
    rw [eD, e]

/-- What the stores of scales leave meets the window's predicate. -/
theorem leaves9 {κ : Kind} {sp : Space} (v : View sig κ sp S1x32x256 .f32) (f : v.ty.Contents (Elt F)) (c : Dev nD) (t : Fin cfg0.N)
    (hF : (rdat m c).Finds 9 t (v.read (Elt F) f)) :
    Rl0 m c 9 t (v.read (Elt F) (v.writes (Elt F) f (piecesS (grid0.coords t) (ldD (grid0.coords t) (ptD m c t.val))
      (ldX (grid0.coords t) (iblk m c 5 t)) (iblk m c 4 t) (iblk m c 6 t)))) := by
  show ∀ (row : Fin 32) (n : Fin 256), row.val < 8 * (t.val % 4) + 8 → _ = ptS m c t.val row n
  intro row n hrow
  have hN : t.val < 20 := lt_of_lt_of_eq t.isLt (show cfg0.N = 20 from N_0)
  have e1 := coord1 t
  by_cases hlt : row.val < 8 * (t.val % 4)
  · rw [read_piecesS_miss v f (grid0.coords t) _ _ _ _ row n (by omega)]
    exact finds9 m c t _ hF row n hlt
  · rw [read_piecesS_hit v f (grid0.coords t) (ptD m c t.val) (iblk m c 4 t) (iblk m c 5 t) (iblk m c 6 t)
      (⟨row.val % 8, Nat.mod_lt _ (by decide)⟩ : Fin 8) row n (by rw [e1]; show row.val = 8 * (t.val % 4) + row.val % 8; omega)]
    unfold ptS
    rw [show row.val / 8 = t.val % 4 by omega, bpt_self]
    rfl

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl0 m c 7 t X⌝ ∗ owns (c : Thread nD τ) (ms0_7 t) fullShare X)
    ∗ (∃ X, ⌜Rl0 m c 8 t X⌝ ∗ owns (c : Thread nD τ) (ms0_8 t) fullShare X)
    ∗ (∃ X, ⌜Rl0 m c 9 t X⌝ ∗ owns (c : Thread nD τ) (ms0_9 t) fullShare X))

set_option maxHeartbeats 2400000 in
/-- The body at any point: the inputs' memrefs hold their blocks; at a batch's first group the scratch is filled, at the others it holds
    the batch's decays and `C`; the stores leave the outputs as `Rl0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Phi0 m c (t.val + 1) from rfl,
    show (dats m 0 c).owesAt () t.succ = (dats m 0 c).owesAt () t.castSucc from rfl,
    after0_0, after0_1, after0_2, after0_3, after0_4, after0_5, after0_6]
  rw [show (dats m 0 c).Φ t.castSucc = Phi0 m c t.val from rfl]
  have hN : t.val < 20 := lt_of_lt_of_eq t.isLt (show cfg0.N = 20 from N_0)
  by_cases h0 : t.val % 4 = 0
  · have eb : bpt t.val 0 = t := by have := bpt_self t; rwa [h0] at this
    have hD : ptD m c t.val = decAll (iblk m c 2 t) (iblk m c 3 t) := by unfold ptD; rw [eb]
    have hC : ptC m c t.val = cAll (iblk m c 1 t) := by unfold ptC; rw [eb]
    rw [Phi0_zero m c t.val h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, -, H8⟩, ⟨%d9, %hF, H9⟩⟩
    iapply ((runA c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [HS0]; · iexact HS0
    isplitl [HS1]; · iexact HS1
    iintro ⟨H0, H1, H2, H3, H4, H5, H6, ⟨%f7, H7⟩, ⟨%f8, H8⟩, ⟨%f9, %hf9, H9⟩, HS0, HS1⟩
    isplitl [HS0 HS1 Hg]
    · iapply (Phi0_succ m c t.val)
      isplitl [HS0 HS1]
      · isplitl [HS0]
        · rw [hD]; iexact HS0
        rw [hC]; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr; swap; · iexact H7
      ipureintro
      rw [← hD, ← hC]
      exact read_piecesY _ f7 (grid0.coords t) (ptD m c t.val) (ptC m c t.val) (iblk m c 0 t) (iblk m c 4 t) (iblk m c 5 t)
    isplitl [H8]
    · iexists _; isplitr; swap; · iexact H8
      ipureintro
      rw [← hD]
      exact read_piecesC _ f8 (grid0.coords t) (ptD m c t.val) (iblk m c 4 t) (iblk m c 5 t) (iblk m c 6 t)
    iexists _; isplitr; swap; · iexact H9
    ipureintro
    rw [← hD]
    exact leaves9 m _ f9 c t (by rw [hf9]; exact hF)
  · rw [Phi0_pos m c t.val h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, -, H8⟩, ⟨%d9, %hF, H9⟩⟩
    iapply ((runB c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) d9 (ptD m c t.val) (ptC m c t.val)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [HS0]; · iexact HS0
    isplitl [HS1]; · iexact HS1
    iintro ⟨H0, H1, H2, H3, H4, H5, H6, ⟨%f7, H7⟩, ⟨%f8, H8⟩, ⟨%f9, %hf9, H9⟩, HS0, HS1⟩
    isplitl [HS0 HS1 Hg]
    · iapply (Phi0_succ m c t.val)
      isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; isplitr; swap; · iexact H7
      ipureintro
      exact read_piecesY _ f7 (grid0.coords t) (ptD m c t.val) (ptC m c t.val) (iblk m c 0 t) (iblk m c 4 t) (iblk m c 5 t)
    isplitl [H8]
    · iexists _; isplitr; swap; · iexact H8
      ipureintro
      exact read_piecesC _ f8 (grid0.coords t) (ptD m c t.val) (iblk m c 4 t) (iblk m c 5 t) (iblk m c 6 t)
    iexists _; isplitr; swap; · iexact H9
    ipureintro
    exact leaves9 m _ f9 c t (by rw [hf9]; exact hF)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligationRel (dats (F := F) m 0 c) (defs₀ (F := F)) Variants.none () Set.univ marks0 (Rl0 m c) := fun t => by
  rw [bigSep_W0, bigSep_W0, defs₀_row]
  exact triple_restated (sound_body m c t) rfl .rfl fun _ => .rfl

/-! ## The run and the frame -/

set_option backward.isDefEq.respectTransparency.types false in
/-- THE LAUNCH: every final state has the arrays as the relational data say and every semaphore counter of the machine at zero. -/
theorem run_main_quiescent : θ_run defs (onTc (τ := τ) (main (F := F))) (s₀ m ρ)
    (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m)
    (hin := fun c => by show Pipeline.ΦA spec0 c ⊢ Phi0 m c 0; exact .rfl)
    (hout := fun c => by
      show Phi0 m c cfg0.N ⊢ Pipeline.ΦA spec0 c
      rw [show cfg0.N = 20 from N_0]; exact .rfl)

end Cert.KernelIdeal.Gen

end
-- ==== Proof.Scale.lean ====
/- Powers of two: their bits, the search for the exponent field, and the least power of two of a table above a number. -/
module

public import Idealize.ShloMosaic.PureOps.Ideal.Laws
public import Mathlib.Algebra.BigOperators.Fin
public import Mathlib.Data.EReal.Basic
public import Mathlib.Data.EReal.Inv

@[expose] public section

set_option maxRecDepth 16384

noncomputable section

namespace Cert.K

open Idealize.ShloMosaic

/-- Two to an integer power, as an extended real. -/
def P2 (k : ℤ) : EReal := (((2 : ℝ) ^ k : ℝ) : EReal)

/-- Powers of two order as their exponents. -/
theorem P2_le {i j : ℤ} : P2 i ≤ P2 j ↔ i ≤ j := by
  unfold P2
  rw [EReal.coe_le_coe_iff]
  exact zpow_le_zpow_iff_right₀ (by norm_num)

/-- Powers of two order strictly as their exponents. -/
theorem P2_lt {i j : ℤ} : P2 i < P2 j ↔ i < j := by
  unfold P2
  rw [EReal.coe_lt_coe_iff]
  exact zpow_lt_zpow_iff_right₀ (by norm_num)

/-- A power of two is positive. -/
theorem P2_pos (i : ℤ) : 0 < P2 i := by
  unfold P2
  rw [← EReal.coe_zero, EReal.coe_lt_coe_iff]
  positivity

/-- Two to the zeroth power. -/
theorem P2_zero : P2 0 = 1 := by unfold P2; simp

/-- The reciprocal of a power of two. -/
theorem div_P2 (i : ℤ) : Ideal.div 1 (P2 i) = P2 (-i) := by
  rw [Ideal.div, if_neg (P2_pos i).ne', one_mul]
  unfold P2
  rw [← EReal.coe_inv, zpow_neg]

/-- One over one. -/
theorem div_one' : Ideal.div 1 1 = 1 := by
  have := div_P2 0
  rwa [neg_zero, P2_zero] at this

/-- The f32 bits with exponent field `k` and nothing else are a power of two. -/
theorem ofBits_field (k : ℕ) (h1 : 1 ≤ k) (h2 : k ≤ 254) : Ideal.ofBits .f32 (BitVec.ofNat 32 (k * 8388608)) = P2 ((k : ℤ) - 127) := by
  have hk : k * 8388608 < 2 ^ 32 := by omega
  have hex : ((BitVec.ofNat 32 (k * 8388608)).extractLsb' 23 8).toNat = k := by
    rw [BitVec.extractLsb'_toNat, BitVec.toNat_ofNat, Nat.mod_eq_of_lt hk, Nat.shiftRight_eq_div_pow]; omega
  have hfr : ((BitVec.ofNat 32 (k * 8388608)).extractLsb' 0 23).toNat = 0 := by
    rw [BitVec.extractLsb'_toNat, BitVec.toNat_ofNat, Nat.mod_eq_of_lt hk, Nat.shiftRight_eq_div_pow]; omega
  have hsg : ((BitVec.ofNat 32 (k * 8388608)).extractLsb' 31 1 == 1#1) = false := by
    rw [beq_eq_false_iff_ne]
    intro he
    have := congrArg BitVec.toNat he
    rw [BitVec.extractLsb'_toNat, BitVec.toNat_ofNat, Nat.mod_eq_of_lt hk, Nat.shiftRight_eq_div_pow] at this
    have h' : k * 8388608 / 2 ^ 31 % 2 ^ 1 = 1 := this
    omega
  show Ideal.ieee 8 23 (BitVec.ofNat 32 (k * 8388608)) = _
  unfold Ideal.ieee P2
  simp only [show (8 + 23 : ℕ) = 31 from rfl, hex, hfr, hsg]
  rw [if_neg (by omega), if_neg (by omega)]
  congr 1
  have e : ((k : ℤ) - (2 ^ (8 - 1) - 1) - ((23 : ℕ) : ℤ)) = ((k : ℤ) - 127) - 23 := by norm_num
  rw [e, zpow_sub₀ (by norm_num : (2 : ℝ) ≠ 0)]
  norm_num
  field_simp

/-- The reciprocal of 448 as f32 rounds it, a real. -/
def c448 : ℝ := 9586981 * (2 : ℝ) ^ (-32 : ℤ)

/-- The greatest finite f32, a real. -/
def fmax : ℝ := 16777215 * (2 : ℝ) ^ (104 : ℤ)

/-- The bits of the reciprocal of 448. -/
theorem ofBits_c448 : Ideal.ofBits .f32 0x3B124925#32 = ((c448 : ℝ) : EReal) := by
  simp [Ideal.ofBits, Ideal.ieee, c448]

/-- The bits of the greatest finite f32. -/
theorem ofBits_fmax : Ideal.ofBits .f32 0x7F7FFFFF#32 = ((fmax : ℝ) : EReal) := by
  simp [Ideal.ofBits, Ideal.ieee, fmax]
  try norm_num

/-- The reciprocal of 448 is not negative. -/
theorem c448_nonneg : (0 : EReal) ≤ ((c448 : ℝ) : EReal) := by
  rw [← EReal.coe_zero, EReal.coe_le_coe_iff]; unfold c448; positivity

/-- The cap over 448 reaches two to the 119. -/
theorem cap_ge : P2 119 ≤ ((fmax : ℝ) : EReal) * ((c448 : ℝ) : EReal) := by
  rw [← EReal.coe_mul]; unfold P2; rw [EReal.coe_le_coe_iff]; unfold fmax c448; norm_num

/-- The cap over 448 stays under two to the 120. -/
theorem cap_lt : ((fmax : ℝ) : EReal) * ((c448 : ℝ) : EReal) < P2 120 := by
  rw [← EReal.coe_mul]; unfold P2; rw [EReal.coe_lt_coe_iff]; unfold fmax c448; norm_num

/-! ## The search -/

/-- One step of the search, on the field as a number. -/
def stepN (x : EReal) (f s : ℕ) : ℕ := if P2 (((f + s : ℕ) : ℤ) - 127) ≤ x then f + s else f

/-- The search's field as a number. -/
def fieldN (x : EReal) : ℕ :=
  stepN x (stepN x (stepN x (stepN x (stepN x (stepN x (stepN x (stepN x 0 119) 64) 32) 16) 8) 4) 2) 1

/-- What the search knows with `w` still to go: the field is reached, and nothing beyond what is left to go is. -/
def Found (x : EReal) (f w : ℕ) : Prop :=
  f + w ≤ 246 ∧ (f = 0 ∨ P2 ((f : ℤ) - 127) ≤ x) ∧ ∀ k : ℕ, f + w < k → k ≤ 246 → x < P2 ((k : ℤ) - 127)

/-- A step keeps it. -/
theorem Found.step {x : EReal} {f w : ℕ} (s : ℕ) (h : Found x f (s + w)) (hs : s ≤ w + 1) : Found x (stepN x f s) w := by
  obtain ⟨h1, h2, h3⟩ := h
  unfold stepN
  split_ifs with hc
  · exact ⟨by omega, .inr hc, fun k hk hk' => h3 k (by omega) hk'⟩
  · refine ⟨by omega, h2, fun k hk hk' => lt_of_lt_of_le (not_le.mp hc) (P2_le.mpr ?_)⟩
    have : f + s ≤ k := by omega
    omega

/-- The search ends at the field. -/
theorem found (x : EReal) : Found x (fieldN x) 0 := by
  have h0 : Found x 0 (119 + 127) := ⟨by omega, .inl rfl, fun k hk hk' => by omega⟩
  have h1 := h0.step 119 (by omega)
  have h2 := Found.step (w := 63) 64 h1 (by omega)
  have h3 := Found.step (w := 31) 32 h2 (by omega)
  have h4 := Found.step (w := 15) 16 h3 (by omega)
  have h5 := Found.step (w := 7) 8 h4 (by omega)
  have h6 := Found.step (w := 3) 4 h5 (by omega)
  have h7 := Found.step (w := 1) 2 h6 (by omega)
  exact Found.step (w := 0) 1 h7 (by omega)

/-! ## The two scales -/

/-- The scale from the field. -/
def scaleK (x : EReal) : EReal := if fieldN x = 0 then 1 else P2 ((fieldN x : ℤ) - 126)

/-- The scale's reciprocal from the field. -/
def invK (x : EReal) : EReal := if fieldN x = 0 then 1 else P2 (126 - (fieldN x : ℤ))

/-- The number whose power of two is taken: the capped maximum over 448, flushed to zero when it is not a normal number. -/
def capped (a : EReal) : EReal :=
  if min ((fmax : ℝ) : EReal) a * ((c448 : ℝ) : EReal) < P2 (-126) then 0 else min ((fmax : ℝ) : EReal) a * ((c448 : ℝ) : EReal)

/-- The least power of two of the table above a number. -/
def leastAbove (x : EReal) : EReal :=
  (Finset.univ : Finset (Fin 246)).fold min ⊤ fun k => if x < P2 ((k.val : ℤ) - 125) then P2 ((k.val : ℤ) - 125) else ⊤

/-- The scale from the table. -/
def scaleR (a : EReal) : EReal := if capped a = 0 then 1 else leastAbove (capped a)

/-- Between two neighbouring powers of two, the least above is the upper one. -/
theorem leastAbove_eq (x : EReal) (f : ℕ) (h1 : 1 ≤ f) (h2 : f ≤ 246) (hl : P2 ((f : ℤ) - 127) ≤ x) (hu : x < P2 ((f : ℤ) - 126)) :
    leastAbove x = P2 ((f : ℤ) - 126) := by
  refine le_antisymm ?_ ?_
  · refine (Finset.fold_min_le _).mpr (.inr ⟨(⟨f - 1, by omega⟩ : Fin 246), Finset.mem_univ _, ?_⟩)
    have e : (((⟨f - 1, by omega⟩ : Fin 246).val : ℤ) - 125) = (f : ℤ) - 126 := by
      show (((f - 1 : ℕ) : ℤ) - 125) = _
      omega
    rw [e, if_pos hu]
  · refine (Finset.le_fold_min _).mpr ⟨le_top, fun k _ => ?_⟩
    split_ifs with hc
    · have := P2_lt.mp (lt_of_le_of_lt hl hc)
      exact P2_le.mpr (by omega)
    · exact le_top

/-- The two scales agree. -/
theorem scale_eq (a : EReal) : scaleR a = scaleK (a * ((c448 : ℝ) : EReal)) := by
  obtain ⟨hf, hlo, hhi⟩ := found (a * ((c448 : ℝ) : EReal))
  unfold scaleK
  set f := fieldN (a * ((c448 : ℝ) : EReal)) with hfd
  have hle : min ((fmax : ℝ) : EReal) a * ((c448 : ℝ) : EReal) ≤ a * ((c448 : ℝ) : EReal) :=
    mul_le_mul_of_nonneg_right (min_le_right _ _) c448_nonneg
  have hle' : min ((fmax : ℝ) : EReal) a * ((c448 : ℝ) : EReal) ≤ ((fmax : ℝ) : EReal) * ((c448 : ℝ) : EReal) :=
    mul_le_mul_of_nonneg_right (min_le_left _ _) c448_nonneg
  unfold scaleR
  by_cases h0 : f = 0
  · rw [if_pos h0]
    have hx : a * ((c448 : ℝ) : EReal) < P2 (-126) := by
      have := hhi 1 (by omega) (by omega)
      simpa using this
    rw [if_pos]
    unfold capped
    rw [if_pos (lt_of_le_of_lt hle hx)]
  · rw [if_neg h0]
    have hlo' := hlo.resolve_left h0
    have hge : P2 ((f : ℤ) - 127) ≤ min ((fmax : ℝ) : EReal) a * ((c448 : ℝ) : EReal) := by
      rcases le_total ((fmax : ℝ) : EReal) a with h | h
      · rw [min_eq_left h]
        exact le_trans (P2_le.mpr (by omega)) cap_ge
      · rwa [min_eq_right h]
    have hlt : min ((fmax : ℝ) : EReal) a * ((c448 : ℝ) : EReal) < P2 ((f : ℤ) - 126) := by
      by_cases h6 : f = 246
      · refine lt_of_le_of_lt hle' (lt_of_lt_of_le cap_lt (P2_le.mpr (by omega)))
      · have := hhi (f + 1) (by omega) (by omega)
        rw [show (((f + 1 : ℕ) : ℤ) - 127) = (f : ℤ) - 126 by push_cast; ring] at this
        exact lt_of_le_of_lt hle this
    have hc : capped a = min ((fmax : ℝ) : EReal) a * ((c448 : ℝ) : EReal) := by
      unfold capped
      rw [if_neg (not_lt.mpr (le_trans (P2_le.mpr (by omega)) hge))]
    rw [hc, if_neg (lt_of_lt_of_le (P2_pos _) hge).ne']
    exact leastAbove_eq _ f (by omega) (by omega) hge hlt

/-- The reciprocal of the table's scale is the field's. -/
theorem inv_eq (a : EReal) : Ideal.div 1 (scaleR a) = invK (a * ((c448 : ℝ) : EReal)) := by
  rw [scale_eq]
  unfold scaleK invK
  split_ifs with h
  · exact div_one'
  · rw [div_P2]; congr 1; ring

end Cert.K
-- ==== Proof.KVal.lean ====
/- The kernel's operations on one head, element by element, at exact numbers. -/
module

public import proofs.«01_k».proof.Proof.KData
public import proofs.«01_k».proof.Proof.Scale
public import Idealize.ShloMosaic.Lib.Pointwise

@[expose] public section

set_option maxRecDepth 16384

noncomputable section

namespace Cert.K

open Idealize.ShloMosaic Idealize.ShloMosaic.TcCoe Idealize.ShloMosaic.Tactic Cert.KernelIdeal Cert.KernelIdeal.Gen

/-- A power of two's bits, in whole exponent fields. -/
def F32 (f : ℕ) : BitVec 32 := BitVec.ofNat 32 (f * 8388608)

/-- Fields add. -/
theorem F32_add (f s : ℕ) : F32 f + F32 s = F32 (f + s) := by
  unfold F32
  rw [← BitVec.ofNat_add, Nat.add_mul]

/-- A field's bits as a number. -/
theorem F32_toNat {f : ℕ} (h : f ≤ 254) : (F32 f).toNat = f * 8388608 := by
  unfold F32
  rw [BitVec.toNat_ofNat]
  omega

/-- A field's bits are zero only when it is. -/
theorem F32_zero {f : ℕ} (h : f ≤ 246) : F32 f = 0#32 ↔ f = 0 := by
  rw [← BitVec.toNat_inj, F32_toNat (by omega), BitVec.toNat_ofNat]
  omega

/-- The complementary field. -/
theorem F32_sub {f : ℕ} (h : f ≤ 246) : F32 253 - F32 f = F32 (253 - f) := by
  rw [← BitVec.toNat_inj, BitVec.toNat_sub, F32_toNat (by omega), F32_toNat (by omega), F32_toNat (by omega)]
  omega

/-- The power of two with a field. -/
theorem ofBits_F32 {f : ℕ} (h1 : 1 ≤ f) (h2 : f ≤ 254) : (Ideal.ofBits .f32 (F32 f)) = P2 ((f : ℤ) - 127) := by
  unfold F32
  exact ofBits_field f h1 h2

attribute [irreducible] F32

/-- A select on a comparison is a conditional. -/
theorem select_oge {n : ℕ} (x y : EReal) (u v : BitVec n) :
    Scalar.select (FloatOps.cmpf (F := Ideal) (φ := .f32) .oge x y) u v = if y ≤ x then u else v := by
  show Scalar.select (BitVec.ofBool (decide (y ≤ x))) u v = _
  by_cases hc : y ≤ x
  · simp only [hc, decide_true, if_true]; rfl
  · simp only [hc, decide_false, if_false]; rfl

/-- One step of the search, at an element. -/
theorem hStep_sel (a : FVec Ideal S1x256 .f32) (F : IVec S1x256 32) (c : BitVec 32) (n : Fin 256) :
    hStep a F c (ix2 0 n) = if Ideal.ofBits .f32 (F (ix2 0 n) + c) ≤ a (ix2 0 n) then F (ix2 0 n) + c else F (ix2 0 n) := by
  rw [← select_oge]
  rfl

/-- One step of the search, at an element, in fields. -/
theorem hStep_apply (a : FVec Ideal S1x256 .f32) (F : IVec S1x256 32) (n : Fin 256) (f s : ℕ) (hF : F (ix2 0 n) = F32 f)
    (h1 : 1 ≤ f + s) (h2 : f + s ≤ 254) :
    hStep a F (F32 s) (ix2 0 n) = F32 (stepN (a (ix2 0 n)) f s) := by
  rw [hStep_sel, hF, F32_add, ofBits_F32 h1 h2]
  unfold stepN
  split_ifs <;> rfl

end Cert.K
-- ==== Proof.Spec.lean ====
/- The mathematics both programs compute, element by element, the decays named. -/
module

public import proofs.«01_k».proof.Proof.Scale
public import Idealize.ShloMosaic.Lib.Pointwise

@[expose] public section

noncomputable section

namespace Cert.K

open Idealize.ShloMosaic

variable (D : Fin 5 → Fin 384 → Fin 32 → EReal) (Y : (⟨3, ![5, 384, 4096]⟩ : Shape).Idx → EReal)
  (C : (⟨4, ![5, 384, 4, 256]⟩ : Shape).Idx → EReal) (Q : (⟨4, ![5, 32, 128, 256]⟩ : Shape).Idx → EReal)
  (S : (⟨3, ![5, 32, 256]⟩ : Shape).Idx → EReal) (H : (⟨4, ![5, 32, 128, 256]⟩ : Shape).Idx → EReal)

/-- The final states. -/
def specV (b : Fin 5) (h : Fin 32) (p : Fin 128) (n : Fin 256) : EReal :=
  D b 383 h * (Q (ix4 b h p n) * S (ix3 b h n)) + H (ix4 b h p n)

/-- The greatest magnitude of a column of states. -/
def specA (b : Fin 5) (h : Fin 32) (n : Fin 256) : EReal :=
  (Finset.univ : Finset (Fin 128)).fold max ⊥ fun p => max (specV D Q S H b h p n) (-(specV D Q S H b h p n))

/-- The scale of a column. -/
def specS (b : Fin 5) (h : Fin 32) (n : Fin 256) : EReal := scaleK (specA D Q S H b h n * ((c448 : ℝ) : EReal))

/-- The codes. -/
def specQ (b : Fin 5) (h : Fin 32) (p : Fin 128) (n : Fin 256) : EReal :=
  min (Ideal.ofBits .f32 0x43E00000#32) (max (Ideal.ofBits .f32 0xC3E00000#32)
    (specV D Q S H b h p n * invK (specA D Q S H b h n * ((c448 : ℝ) : EReal))))

/-- The corrected outputs. -/
def specY (b : Fin 5) (s : Fin 384) (l : Fin 4096) : EReal :=
  Y (ix3 b s l) + (∑ k : Fin 256, C (ix4 b s (⟨l.val / 1024, by omega⟩ : Fin 4) k)
      * (Q (ix4 b (⟨l.val / 128, by omega⟩ : Fin 32) (⟨l.val % 128, Nat.mod_lt _ (by decide)⟩ : Fin 128) k)
        * S (ix3 b (⟨l.val / 128, by omega⟩ : Fin 32) k))) * D b s (⟨l.val / 128, by omega⟩ : Fin 32)

end Cert.K
-- ==== Proof.RVal.lean ====
/- The reference's results, element by element. -/
module

public import proofs.«01_k».proof.Proof.Gen.ReferenceIdeal.Skeleton
public import proofs.«01_k».proof.Proof.Scale
public import Idealize.ShloMosaic.Lib.Pointwise

@[expose] public section

set_option maxRecDepth 16384

noncomputable section

namespace Cert.K.Ref

open Idealize.ShloMosaic Idealize.ShloMosaic.TcCoe Idealize.ShloMosaic.Tactic
open Cert.ReferenceIdeal Cert.ReferenceIdeal.Gen

/-- The states. -/
theorem pay6_apply (P0 : Vec Ideal S5x384x32 .f32) (P1 : Vec Ideal S5x32x128x256 .fp8e4m3) (P2 : Vec Ideal S5x32x256 .f32)
    (P3 : Vec Ideal S5x32x128x256 .f32) (b : Fin 5) (h : Fin 32) (p : Fin 128) (n : Fin 256) :
    k0_pay6 (k0_pay4 P2 P1) (k0_pay5 P0) P3 (ix4 b h p n)
      = P0 (ix3 b (383 : Fin 384) h) * (P1 (ix4 b h p n) * P2 (ix3 b h n)) + P3 (ix4 b h p n) := by
  unfold k0_pay6 k0_pay4 k0_pay5 k0_pay2
  pointwise

/-- The bits of minus infinity. -/
theorem ofBits_bot : Ideal.ofBits .f32 0xFF800000#32 = ⊥ := by simp [Ideal.ofBits, Ideal.ieee]

/-- The bits of infinity. -/
theorem ofBits_top : Ideal.ofBits .f32 0x7F800000#32 = ⊤ := by simp [Ideal.ofBits, Ideal.ieee]

/-- The bits of the least normal number. -/
theorem ofBits_min : Ideal.ofBits .f32 0x00800000#32 = P2 (-126) := ofBits_field 1 (by decide) (by decide)

/-- The table's least along its entries. -/
theorem min_apply (v : FVec Ideal S246x5x32x256 .f32) (b : Fin 5) (h : Fin 32) (n : Fin 256) :
    multiReduction .minimumf [0] S5x32x256 v 0x7F800000#32 reduces_S246x5x32x256_S5x32x256 (.inl rfl) rfl (ix3 b h n)
     = (Finset.univ : Finset (Fin 246)).fold min (Ideal.ofBits .f32 0x7F800000#32) fun k => v (ix4 k b h n) := by
  pointwise

/-- The greatest along the columns. -/
theorem max_apply (v : FVec Ideal S5x32x128x256 .f32) (b : Fin 5) (h : Fin 32) (n : Fin 256) :
    multiReduction .maximumf [2] S5x32x256 v 0xFF800000#32 reduces_S5x32x128x256_S5x32x256 (.inl rfl) rfl (ix3 b h n)
     = (Finset.univ : Finset (Fin 128)).fold max (Ideal.ofBits .f32 0xFF800000#32) fun k => v (ix4 b h k n) := by
  pointwise

/-- The outputs. -/
theorem pay3_apply (P0 : Vec Ideal S5x384x32 .f32) (P1 : Vec Ideal S5x32x128x256 .fp8e4m3) (P2 : Vec Ideal S5x32x256 .f32)
    (C : Vec Ideal S5x4x384x256 .bf16) (Y : Vec Ideal S5x384x4096 .bf16) (b : Fin 5) (s : Fin 384) (l : Fin 4096) :
    k0_pay3 P2 P1 C P0 Y (ix3 b s l) = Y (ix3 b s l) + (∑ k : Fin 256, C (ix4 b (⟨l.val / 1024, by omega⟩ : Fin 4) s k)
      * (P1 (ix4 b (⟨l.val / 128, by omega⟩ : Fin 32) (⟨l.val % 128, Nat.mod_lt _ (by decide)⟩ : Fin 128) k)
        * P2 (ix3 b (⟨l.val / 128, by omega⟩ : Fin 32) k))) * P0 (ix3 b s (⟨l.val / 128, by omega⟩ : Fin 32)) := by
  have e1 : ∀ hh, (⟨(b.val * 4 + l.val / 1024) % 4, hh⟩ : Fin 4) = ⟨l.val / 1024, by omega⟩ := fun _ => Fin.ext (by show (b.val * 4 + l.val / 1024) % 4 = l.val / 1024; omega)
  have e2 : ∀ hh, (⟨(b.val * 4 + l.val / 1024) % 4 * 8 + (l.val / 128 % 8 * 128 + l.val % 128) / 128, hh⟩ : Fin 32) = ⟨l.val / 128, by omega⟩ :=
    fun _ => Fin.ext (by show (b.val * 4 + l.val / 1024) % 4 * 8 + (l.val / 128 % 8 * 128 + l.val % 128) / 128 = l.val / 128; omega)
  have e3 : ∀ hh, (⟨(l.val / 128 % 8 * 128 + l.val % 128) % 128, hh⟩ : Fin 128) = ⟨l.val % 128, Nat.mod_lt _ (by decide)⟩ :=
    fun _ => Fin.ext (by show (l.val / 128 % 8 * 128 + l.val % 128) % 128 = l.val % 128; omega)
  have e4 : ∀ hh, (⟨l.val / 1024 * 8 + l.val / 128 % 8, hh⟩ : Fin 32) = ⟨l.val / 128, by omega⟩ :=
    fun _ => Fin.ext (by show l.val / 1024 * 8 + l.val / 128 % 8 = l.val / 128; omega)
  unfold k0_pay3 k0_pay2
  pointwise
  simp only [e1, e2, e3, e4]

/-- The greatest magnitude along the columns. -/
def amax (v : FVec Ideal S5x32x128x256 .f32) (b : Fin 5) (h : Fin 32) (n : Fin 256) : EReal :=
  (Finset.univ : Finset (Fin 128)).fold max ⊥ fun p => max (v (ix4 b h p n)) (-(v (ix4 b h p n)))

/-- The number whose power of two the reference takes. -/
def refX (v : FVec Ideal S5x32x128x256 .f32) : FVec Ideal S5x32x256 .f32 :=
  select (cmpf .olt (mulf (minimumf (multiReduction .maximumf [2] S5x32x256 (absf v) 0xFF800000#32 reduces_S5x32x128x256_S5x32x256 (.inl rfl) rfl)
      (broadcast S5x32x256 (Scalar.ofBits .f32 0x7F7FFFFF#32)))
      (broadcast S5x32x256 (Scalar.ofBits .f32 0x3B124925#32))) (broadcast S5x32x256 (Scalar.ofBits .f32 0x00800000#32)))
    (broadcast S5x32x256 (Scalar.ofBits .f32 0x00000000#32))
    (mulf (minimumf (multiReduction .maximumf [2] S5x32x256 (absf v) 0xFF800000#32 reduces_S5x32x128x256_S5x32x256 (.inl rfl) rfl)
      (broadcast S5x32x256 (Scalar.ofBits .f32 0x7F7FFFFF#32)))
      (broadcast S5x32x256 (Scalar.ofBits .f32 0x3B124925#32)))

/-- The table's entries above a number, the others infinite. -/
def refT (X : FVec Ideal S5x32x256 .f32) (T : Vec Ideal S246x1x1x1 .f32) : FVec Ideal S246x5x32x256 .f32 :=
  select (cmpf .ogt (broadcastTo S246x5x32x256 (shapeCast S246x1x1x1 T shapeCasts_S246x1x1x1_S246x1x1x1) broadcasts_S246x1x1x1_S246x5x32x256)
      (broadcastTo S246x5x32x256 (shapeCast S1x5x32x256 X shapeCasts_S5x32x256_S1x5x32x256) broadcasts_S1x5x32x256_S246x5x32x256))
    (broadcastTo S246x5x32x256 (shapeCast S246x1x1x1 (shapeCast S246x1x1x1 T shapeCasts_S246x1x1x1_S246x1x1x1) shapeCasts_S246x1x1x1_S246x1x1x1)
      broadcasts_S246x1x1x1_S246x5x32x256)
    (broadcast S246x5x32x256 (Scalar.ofBits .f32 0x7F800000#32))

/-- The reference's scale, the number named. -/
def refS (X : FVec Ideal S5x32x256 .f32) (T : Vec Ideal S246x1x1x1 .f32) : FVec Ideal S5x32x256 .f32 :=
  select (cmpf .oeq X (broadcast S5x32x256 (Scalar.ofBits .f32 0x00000000#32))) (broadcast S5x32x256 (Scalar.ofBits .f32 0x3F800000#32))
    (multiReduction .minimumf [0] S5x32x256 (refT X T) 0x7F800000#32 reduces_S246x5x32x256_S5x32x256 (.inl rfl) rfl)

/-- The printed scale is that. -/
theorem pay7_eq (v31 : FVec Ideal S5x32x128x256 .f32) (v33 : FVec Ideal S5x32 .f32) (v37 : Vec Ideal S5x32x128x256 .f32)
    (v49 : Vec Ideal S246x1x1x1 .f32) : k0_pay7 v31 v33 v37 v49 = refS (refX (k0_pay6 v31 v33 v37)) v49 := by
  unfold k0_pay7 refS refT refX
  rfl

/-- The greatest magnitude, as the reduction prints it. -/
theorem amax_eq (v : FVec Ideal S5x32x128x256 .f32) (b : Fin 5) (h : Fin 32) (n : Fin 256) :
    multiReduction .maximumf [2] S5x32x256 (absf v) 0xFF800000#32 reduces_S5x32x128x256_S5x32x256 (.inl rfl) rfl (ix3 b h n) = amax v b h n := by
  rw [max_apply, ofBits_bot]
  unfold amax
  refine Finset.fold_congr fun p _ => ?_
  exact rfl

/-- The capped number, the maximum named. -/
theorem cap_apply (w : FVec Ideal S5x32x256 .f32) (j : S5x32x256.Idx) :
    select (cmpf .olt (mulf (minimumf w (broadcast S5x32x256 (Scalar.ofBits .f32 0x7F7FFFFF#32)))
      (broadcast S5x32x256 (Scalar.ofBits .f32 0x3B124925#32))) (broadcast S5x32x256 (Scalar.ofBits .f32 0x00800000#32)))
    (broadcast S5x32x256 (Scalar.ofBits .f32 0x00000000#32))
    (mulf (minimumf w (broadcast S5x32x256 (Scalar.ofBits .f32 0x7F7FFFFF#32)))
      (broadcast S5x32x256 (Scalar.ofBits .f32 0x3B124925#32))) j = capped (w j) := by
  have e : capped (w j) = if min (w j) (Ideal.ofBits .f32 0x7F7FFFFF#32) * Ideal.ofBits .f32 0x3B124925#32 < Ideal.ofBits .f32 0x00800000#32 then 0
      else min (w j) (Ideal.ofBits .f32 0x7F7FFFFF#32) * Ideal.ofBits .f32 0x3B124925#32 := by
    rw [ofBits_c448, ofBits_fmax, ofBits_min, min_comm]
    rfl
  rw [e]
  pointwise

/-- The number at an index. -/
theorem refX_apply (v : FVec Ideal S5x32x128x256 .f32) (b : Fin 5) (h : Fin 32) (n : Fin 256) :
    refX v (ix3 b h n) = capped (amax v b h n) := by
  rw [← amax_eq]
  exact cap_apply _ _

/-- The table's entries at an index. -/
theorem refT_apply (X : FVec Ideal S5x32x256 .f32) (T : Vec Ideal S246x1x1x1 .f32) (k : Fin 246) (b : Fin 5) (h : Fin 32) (n : Fin 256) :
    refT X T (ix4 k b h n) = if X (ix3 b h n) < T (ix4 k 0 0 0) then T (ix4 k 0 0 0) else ⊤ := by
  unfold refT
  rw [← ofBits_top]
  pointwise

/-- The scale at an index, the number named. -/
theorem refS_apply (X : FVec Ideal S5x32x256 .f32) (T : Vec Ideal S246x1x1x1 .f32) (hT : ∀ k : Fin 246, T (ix4 k 0 0 0) = P2 ((k.val : ℤ) - 125))
    (b : Fin 5) (h : Fin 32) (n : Fin 256) :
    refS X T (ix3 b h n) = if X (ix3 b h n) = 0 then 1 else leastAbove (X (ix3 b h n)) := by
  have hm : multiReduction .minimumf [0] S5x32x256 (refT X T) 0x7F800000#32 reduces_S246x5x32x256_S5x32x256 (.inl rfl) rfl (ix3 b h n)
      = leastAbove (X (ix3 b h n)) := by
    rw [min_apply, ofBits_top]
    unfold leastAbove
    refine Finset.fold_congr fun k _ => ?_
    rw [refT_apply, hT]
  unfold refS
  rw [← hm]
  generalize multiReduction .minimumf [0] S5x32x256 (refT X T) 0x7F800000#32 reduces_S246x5x32x256_S5x32x256 (.inl rfl) rfl = w
  pointwise

/-- The scale at an index. -/
theorem pay7_apply (v31 : FVec Ideal S5x32x128x256 .f32) (v33 : FVec Ideal S5x32 .f32) (v37 : Vec Ideal S5x32x128x256 .f32)
    (T : Vec Ideal S246x1x1x1 .f32) (hT : ∀ k : Fin 246, T (ix4 k 0 0 0) = P2 ((k.val : ℤ) - 125)) (b : Fin 5) (h : Fin 32) (n : Fin 256) :
    k0_pay7 v31 v33 v37 T (ix3 b h n) = scaleR (amax (k0_pay6 v31 v33 v37) b h n) := by
  rw [pay7_eq, refS_apply _ _ hT, refX_apply]
  rfl

/-- States over scales, both named, at an index. -/
theorem scaled_apply (u : FVec Ideal S5x32x128x256 .f32) (w : FVec Ideal S5x32x256 .f32) (b : Fin 5) (h : Fin 32) (p : Fin 128) (n : Fin 256) :
    mulf u (broadcastTo S5x32x128x256 (shapeCast S5x32x1x256 (divf (broadcast S5x32x256 (Scalar.ofBits .f32 0x3F800000#32)) w)
      shapeCasts_S5x32x256_S5x32x1x256) broadcasts_S5x32x1x256_S5x32x128x256) (ix4 b h p n) = u (ix4 b h p n) * Ideal.div 1 (w (ix3 b h n)) := by
  pointwise

/-- The scaled states at an index. -/
theorem pay8_apply (v31 : FVec Ideal S5x32x128x256 .f32) (v33 : FVec Ideal S5x32 .f32) (v37 : Vec Ideal S5x32x128x256 .f32)
    (T : Vec Ideal S246x1x1x1 .f32) (b : Fin 5) (h : Fin 32) (p : Fin 128) (n : Fin 256) :
    k0_pay8 v31 v33 v37 T (ix4 b h p n) = k0_pay6 v31 v33 v37 (ix4 b h p n) * Ideal.div 1 (k0_pay7 v31 v33 v37 T (ix3 b h n)) :=
  scaled_apply _ _ b h p n

/-- The codes at an index. -/
theorem pay1_apply (v : FVec Ideal S5x32x128x256 .f32) (lo hi : EReal) (j : S5x32x128x256.Idx) :
    k0_pay1 v lo hi j = min hi (max lo (v j)) := rfl

end Cert.K.Ref
-- ==== Proof.KVal2.lean ====
/- The kernel's operations on one head, element by element, at exact numbers: the search, the states, the codes. -/
module

public import proofs.«01_k».proof.Proof.KVal
public import proofs.«01_k».proof.Proof.Spec
public import proofs.«01_k».proof.Proof.RVal

@[expose] public section

set_option maxRecDepth 16384

noncomputable section

namespace Cert.K

open Idealize.ShloMosaic Idealize.ShloMosaic.TcCoe Idealize.ShloMosaic.Tactic Cert.KernelIdeal Cert.KernelIdeal.Gen

/-- A step goes up by no more than itself. -/
theorem stepN_le (x : EReal) (f s : ℕ) : stepN x f s ≤ f + s := by
  unfold stepN
  split_ifs <;> omega

/-- The search, at an element. -/
theorem hField_apply (a : FVec Ideal S1x256 .f32) (n : Fin 256) : hField a (ix2 0 n) = F32 (fieldN (a (ix2 0 n))) := by
  have c0 : (998244352#32 : BitVec 32) = F32 119 := by unfold F32; decide
  have c1 : (536870912#32 : BitVec 32) = F32 64 := by unfold F32; decide
  have c2 : (268435456#32 : BitVec 32) = F32 32 := by unfold F32; decide
  have c3 : (134217728#32 : BitVec 32) = F32 16 := by unfold F32; decide
  have c4 : (67108864#32 : BitVec 32) = F32 8 := by unfold F32; decide
  have c5 : (33554432#32 : BitVec 32) = F32 4 := by unfold F32; decide
  have c6 : (16777216#32 : BitVec 32) = F32 2 := by unfold F32; decide
  have c7 : (8388608#32 : BitVec 32) = F32 1 := by unfold F32; decide
  have cz : (0#32 : BitVec 32) = F32 0 := by unfold F32; decide
  unfold hField fieldN
  rw [c0, c1, c2, c3, c4, c5, c6, c7]
  set x := a (ix2 0 n) with hx
  have e0 := hStep_apply a (broadcast S1x256 0#32) n 0 119 cz (by omega) (by omega)
  have l0 := stepN_le x 0 119
  have e1 := hStep_apply a _ n _ 64 e0 (by omega) (by rw [← hx]; omega)
  have l1 := stepN_le x (stepN x 0 119) 64
  have e2 := hStep_apply a _ n _ 32 e1 (by omega) (by rw [← hx]; omega)
  have l2 := stepN_le x (stepN x (stepN x 0 119) 64) 32
  have e3 := hStep_apply a _ n _ 16 e2 (by omega) (by rw [← hx]; omega)
  have l3 := stepN_le x (stepN x (stepN x (stepN x 0 119) 64) 32) 16
  have e4 := hStep_apply a _ n _ 8 e3 (by omega) (by rw [← hx]; omega)
  have l4 := stepN_le x (stepN x (stepN x (stepN x (stepN x 0 119) 64) 32) 16) 8
  have e5 := hStep_apply a _ n _ 4 e4 (by omega) (by rw [← hx]; omega)
  have l5 := stepN_le x (stepN x (stepN x (stepN x (stepN x (stepN x 0 119) 64) 32) 16) 8) 4
  have e6 := hStep_apply a _ n _ 2 e5 (by omega) (by rw [← hx]; omega)
  have l6 := stepN_le x (stepN x (stepN x (stepN x (stepN x (stepN x (stepN x 0 119) 64) 32) 16) 8) 4) 2
  exact hStep_apply a _ n _ 1 e6 (by omega) (by omega)

/-- The field never passes 246. -/
theorem fieldN_le (x : EReal) : fieldN x ≤ 246 := by
  have := (found x).1
  omega

/-- A select on a test for zero bits is a conditional. -/
theorem select_eq {α : Type} (x y : BitVec 32) (u v : α) : Scalar.select (IntOp.cmpi .eq x y) u v = if x = y then u else v := by
  show Scalar.select (BitVec.ofBool (x == y)) u v = _
  by_cases hc : x = y
  · simp only [hc, beq_self_eq_true, if_true]; rfl
  · have : (x == y) = false := by simpa using hc
    simp only [this, hc, if_false]; rfl

/-- The scales, at an element. -/
theorem hScale_apply (a : FVec Ideal S1x256 .f32) (n : Fin 256) : hScale a (ix2 0 n) = scaleK (a (ix2 0 n)) := by
  have c7 : (8388608#32 : BitVec 32) = F32 1 := by unfold F32; decide
  have e : hScale a (ix2 0 n) = Scalar.select (IntOp.cmpi .eq (hField a (ix2 0 n)) 0#32) (Ideal.ofBits .f32 0x3F800000#32)
    (Ideal.ofBits .f32 (hField a (ix2 0 n) + 8388608#32)) := rfl
  have hle := fieldN_le (a (ix2 0 n))
  rw [e, select_eq, hField_apply, c7, F32_add, ofBits_F32 (by omega) (by omega), Ideal.ofBits_one_f32]
  unfold scaleK
  simp only [F32_zero hle]
  congr 2
  push_cast; ring

/-- The scales' reciprocals, at an element. -/
theorem hInv_apply (a : FVec Ideal S1x256 .f32) (n : Fin 256) : hInv a (ix2 0 n) = invK (a (ix2 0 n)) := by
  have c7 : (2122317824#32 : BitVec 32) = F32 253 := by unfold F32; decide
  have e : hInv a (ix2 0 n) = Scalar.select (IntOp.cmpi .eq (hField a (ix2 0 n)) 0#32) (Ideal.ofBits .f32 0x3F800000#32)
    (Ideal.ofBits .f32 (2122317824#32 - hField a (ix2 0 n))) := rfl
  have hle := fieldN_le (a (ix2 0 n))
  rw [e, select_eq, hField_apply, c7, F32_sub hle, ofBits_F32 (by omega) (by omega), Ideal.ofBits_one_f32]
  unfold invK
  simp only [F32_zero hle]
  congr 2
  omega

/-- The states of a head, at an element. -/
theorem hV_apply (v9 : FVec Ideal S1x8 .f32) (v14 : FVec Ideal S8x256 .f32) (r : ℕ) (h : r < 8) (code : Vec Ideal S1x1x128x256 .fp8e4m3)
    (hl : Vec Ideal S1x1x128x256 .f32) (p : Fin 128) (n : Fin 256) :
    hV v9 v14 r h code hl (ix2 p n)
      = v9 (ix2 0 ⟨r, h⟩) * (code (ix4 0 0 p n) * v14 (ix2 ⟨r, h⟩ n)) + hl (ix4 0 0 p n) := by
  unfold hV
  pointwise

/-- The initial states of a head, at an element. -/
theorem hB_apply (v14 : FVec Ideal S8x256 .f32) (r : ℕ) (h : r < 8) (code : Vec Ideal S1x1x128x256 .fp8e4m3)
    (p : Fin 128) (n : Fin 256) :
    hB v14 r h code (ix2 p n) = code (ix4 0 0 p n) * v14 (ix2 ⟨r, h⟩ n) := by
  unfold hB
  pointwise

/-- The codes, at an element. -/
theorem hOutC_apply (v : FVec Ideal S128x256 .f32) (p : Fin 128) (n : Fin 256) :
    hOutC v (ix4 0 0 p n) = min (Ideal.ofBits .f32 0x43E00000#32) (max (Ideal.ofBits .f32 0xC3E00000#32)
      (v (ix2 p n) * invK (hA v (ix2 0 n)))) := by
  rw [← hInv_apply]
  unfold hOutC
  generalize hInv (hA v) = w
  pointwise

/-- The scales, at an element of what is stored. -/
theorem hOutS_apply (v : FVec Ideal S128x256 .f32) (n : Fin 256) : hOutS v (ix3 0 0 n) = scaleK (hA v (ix2 0 n)) := by
  rw [← hScale_apply]
  unfold hOutS
  generalize hScale (hA v) = w
  pointwise

end Cert.K
-- ==== Proof.KVal3.lean ====
/- The kernel's operations on one head, element by element, at exact numbers: the maxima, the products, the outputs. -/
module

public import proofs.«01_k».proof.Proof.KVal2

@[expose] public section

set_option maxRecDepth 16384

noncomputable section

namespace Cert.K

open Idealize.ShloMosaic Idealize.ShloMosaic.TcCoe Idealize.ShloMosaic.Tactic Cert.KernelIdeal Cert.KernelIdeal.Gen

/-- A maximum down the columns, at an element. -/
theorem maxcol_apply (v : FVec Ideal S128x256 .f32) (n : Fin 256) :
    multiReduction .maximumf [0] S256 v 0xFF800000#32 reduces_S128x256_S256 (.inl rfl) rfl (ix1 n)
      = (Finset.univ : Finset (Fin 128)).fold max ⊥ fun p => v (ix2 p n) := by
  pointwise
  rfl

/-- The columns' greatest magnitudes over 448, at an element. -/
theorem hA_apply (v : FVec Ideal S128x256 .f32) (n : Fin 256) :
    hA v (ix2 0 n) = (Finset.univ : Finset (Fin 128)).fold max ⊥ (fun p => max (v (ix2 p n)) (-(v (ix2 p n)))) * ((c448 : ℝ) : EReal) := by
  have e : ∀ p : Fin 128, max (v (ix2 p n)) (-(v (ix2 p n))) = absf v (ix2 p n) := fun p => rfl
  simp only [e, ← maxcol_apply, ← ofBits_c448]
  unfold hA
  generalize multiReduction .maximumf [0] S256 (absf v) 0xFF800000#32 reduces_S128x256_S256 (.inl rfl) rfl = w
  pointwise

/-- A pair of heads side by side: row `k`'s head is `k / 128`. -/
theorem cat_apply (b0 b1 : FVec Ideal S128x256 .bf16) (q : Fin 256) (k : Fin 256) :
    concatenate S256x256 0 [⟨S128x256, b0⟩, ⟨S128x256, b1⟩] concatenates_S128x256_S128x256_S256x256_d0 (ix2 q k)
      = if h : q.val < 128 then b0 (ix2 ⟨q.val, h⟩ k) else b1 (ix2 ⟨q.val - 128, by omega⟩ k) := by
  pointwise

/-- A pair's product with `C`, at an element. -/
theorem hDot_apply (v8 : FVec Ideal S384x256 .bf16) (b0 b1 : FVec Ideal S128x256 .bf16) (s : Fin 384) (q : Fin 256) :
    hDot v8 b0 b1 (ix2 s q) = ∑ k : Fin 256, v8 (ix2 s k)
      * (if h : q.val < 128 then b0 (ix2 ⟨q.val, h⟩ k) else b1 (ix2 ⟨q.val - 128, by omega⟩ k)) := by
  simp only [← cat_apply]
  unfold hDot
  generalize concatenate S256x256 0 [⟨S128x256, b0⟩, ⟨S128x256, b1⟩] concatenates_S128x256_S128x256_S256x256_d0 = w
  pointwise

/-- The outputs of a head, at an element. -/
theorem hOutY_apply (v5 : FVec Ideal S384x8 .f32) (s : FVec Ideal S384x256 .f32) (r : ℕ) (h : r < 8) (k : ℕ) (hk : k < 2)
    (y : Vec Ideal S1x384x128 .bf16) (t : Fin 384) (p : Fin 128) :
    hOutY v5 s r h k hk y (ix3 0 t p)
      = y (ix3 0 t p) + s (ix2 t ⟨128 * k + p.val, by omega⟩) * v5 (ix2 t ⟨r, h⟩) := by
  unfold hOutY
  pointwise

/-- The final decays of a group, at an element. -/
theorem pay15_apply (v4 : Vec Ideal S1x384x8 .f32) (r : Fin 8) : k0_pay15 v4 (ix2 0 r) = v4 (ix3 0 383 r) := by
  unfold k0_pay15 k0_pay13
  pointwise

/-- The scales of a group, at an element. -/
theorem pay16_apply (v : Vec Ideal S1x8x256 .f32) (r : Fin 8) (n : Fin 256) : k0_pay16 v (ix2 r n) = v (ix3 0 r n) := by
  unfold k0_pay16
  pointwise

/-- The decays of a group, at an element. -/
theorem pay13_apply (v : Vec Ideal S1x384x8 .f32) (s : Fin 384) (r : Fin 8) : k0_pay13 v (ix2 s r) = v (ix3 0 s r) := by
  unfold k0_pay13
  pointwise

/-- `C` of a group, at an element. -/
theorem pay14_apply (v : Vec Ideal S1x384x256 .bf16) (s : Fin 384) (k : Fin 256) : k0_pay14 v (ix2 s k) = v (ix3 0 s k) := by
  unfold k0_pay14
  pointwise

end Cert.K
-- ==== Proof.KDec.lean ====
/- The kernel's decays, element by element, at exact numbers. -/
module

public import proofs.«01_k».proof.Proof.KHead
public import Idealize.ShloMosaic.Lib.Pointwise

@[expose] public section

set_option maxRecDepth 16384

noncomputable section

namespace Cert.K

open Idealize.ShloMosaic Idealize.ShloMosaic.TcCoe Idealize.ShloMosaic.Tactic Cert.KernelIdeal Cert.KernelIdeal.Gen

/-- The lower triangle of ones. -/
def tri : FVec Ideal S384x384 .bf16 :=
  truncf .bf16 (select (cmpi .sle (iota .tc S384x384 32 [1] iota_S384x384_d1_w32) (iota .tc S384x384 32 [0] iota_S384x384_d0_w32))
    (broadcast S384x384 (Scalar.ofBits .f32 0x3F800000#32)) (broadcast S384x384 (Scalar.ofBits .f32 0x00000000#32))) bitsLt_bf16_f32

/-- A product with the triangle. -/
def triDot (p : FVec Ideal S32x384 .bf16) : FVec Ideal S384x32 .f32 :=
  matmul dot_S384x384_S32x384_S384x32_1_1_0_0_n_n none tri p (constant S384x32 .f32 0x00000000#32)

/-- The step sizes as a matrix. -/
def dtM (x : Vec Ideal S1x32x384 .f32) : FVec Ideal S32x384 .f32 := shapeCast S32x384 x shapeCasts_S1x32x384_S32x384

/-- The step sizes rounded. -/
def dt0 (x : Vec Ideal S1x32x384 .f32) : FVec Ideal S32x384 .bf16 := truncf .bf16 (dtM x) bitsLt_bf16_f32

/-- What the rounding leaves. -/
def rem1 (x : Vec Ideal S1x32x384 .f32) : FVec Ideal S32x384 .f32 := subf (dtM x) (extf .f32 (dt0 x) bitsLt_bf16_f32)

/-- What is left, rounded. -/
def dt1 (x : Vec Ideal S1x32x384 .f32) : FVec Ideal S32x384 .bf16 := truncf .bf16 (rem1 x) bitsLt_bf16_f32

/-- What is left of what is left, rounded. -/
def dt2 (x : Vec Ideal S1x32x384 .f32) : FVec Ideal S32x384 .bf16 :=
  truncf .bf16 (subf (rem1 x) (extf .f32 (dt1 x) bitsLt_bf16_f32)) bitsLt_bf16_f32

/-- The heads' rates. -/
def rate (x : Vec Ideal S1x32 .f32) : FVec Ideal S1x32 .f32 :=
  subf (broadcast S1x32 (Scalar.ofBits .f32 0x00000000#32)) (exp (shapeCast S1x32 x shapeCasts_S1x32_S1x32))

/-- The printed decays are these. -/
theorem pay2_eq (x : Vec Ideal S1x32x384 .f32) (a : Vec Ideal S1x32 .f32) :
    k0_pay2 x a = exp (mulf (addf (addf (addf (broadcast S384x32 (Scalar.ofBits .f32 0x00000000#32)) (triDot (dt2 x))) (triDot (dt1 x)))
      (triDot (dt0 x))) (broadcastTo S384x32 (rate a) broadcasts_S1x32_S384x32)) := by
  unfold k0_pay2 triDot tri dt2 dt1 dt0 rem1 dtM rate
  rfl

/-- The triangle at an element. -/
theorem tri_apply (s t : Fin 384) : tri (ix2 s t) = if t.val ≤ s.val then (1 : EReal) else 0 := by
  have e : tri (ix2 s t) = Scalar.select (IntOp.cmpi .sle (BitVec.ofNat 32 t.val) (BitVec.ofNat 32 s.val))
    (Ideal.ofBits .f32 0x3F800000#32) (Ideal.ofBits .f32 0x00000000#32) := by
    unfold tri
    pointwise
  rw [e, Ideal.ofBits_one_f32, Ideal.ofBits_zero_f32]
  have hs := s.isLt
  have ht := t.isLt
  show Scalar.select (BitVec.ofBool ((BitVec.ofNat 32 t.val).sle (BitVec.ofNat 32 s.val))) (1 : EReal) 0 = _
  have h : (BitVec.ofNat 32 t.val).sle (BitVec.ofNat 32 s.val) = decide (t.val ≤ s.val) := by
    rw [BitVec.sle_eq_decide, BitVec.toInt_ofNat', BitVec.toInt_ofNat']
    congr 1
    rw [Int.bmod_eq_of_le (by omega) (by omega), Int.bmod_eq_of_le (by omega) (by omega)]
    exact propext Int.ofNat_le
  rw [h]
  by_cases hc : t.val ≤ s.val
  · simp only [hc, decide_true, if_true]; rfl
  · simp only [hc, decide_false, if_false]; rfl

/-- A product with the triangle at an element. -/
theorem triDot_apply (p : FVec Ideal S32x384 .bf16) (s : Fin 384) (h : Fin 32) :
    triDot p (ix2 s h) = ∑ t : Fin 384, (if t.val ≤ s.val then (1 : EReal) else 0) * p (ix2 h t) := by
  simp only [← tri_apply]
  unfold triDot
  generalize tri = w
  pointwise

/-- The rates at an element. -/
theorem rate_apply (x : Vec Ideal S1x32 .f32) (h : Fin 32) : rate x (ix2 0 h) = 0 - Ideal.exp (x (ix2 0 h)) := by
  unfold rate
  pointwise

/-- The step sizes' matrix at an element. -/
theorem dtM_apply (x : Vec Ideal S1x32x384 .f32) (h : Fin 32) (t : Fin 384) : dtM x (ix2 h t) = x (ix3 0 h t) := by
  unfold dtM
  pointwise

/-- The exponent's factors, at an element. -/
theorem pay2_apply (x : Vec Ideal S1x32x384 .f32) (a : Vec Ideal S1x32 .f32) (s : Fin 384) (h : Fin 32) :
    k0_pay2 x a (ix2 s h) = Ideal.exp ((0 + triDot (dt2 x) (ix2 s h) + triDot (dt1 x) (ix2 s h) + triDot (dt0 x) (ix2 s h))
      * (0 - Ideal.exp (a (ix2 0 h)))) := by
  rw [pay2_eq, ← rate_apply]
  generalize triDot (dt2 x) = u
  generalize triDot (dt1 x) = v
  generalize triDot (dt0 x) = w
  generalize rate a = z
  pointwise

/-- The parts of finite step sizes: the first is all of it. -/
theorem parts (x : Vec Ideal S1x32x384 .f32) (h : Fin 32) (t : Fin 384) (d : ℝ) (hd : x (ix3 0 h t) = (d : EReal)) :
    dt0 x (ix2 h t) = (d : EReal) ∧ dt1 x (ix2 h t) = (0 : EReal) ∧ dt2 x (ix2 h t) = (0 : EReal) := by
  have h0 : dt0 x (ix2 h t) = (d : EReal) := by rw [← hd, ← dtM_apply x h t]; rfl
  have h1 : dt1 x (ix2 h t) = (0 : EReal) := by
    have e : dt1 x (ix2 h t) = (dtM x (ix2 h t) - dt0 x (ix2 h t) : EReal) := rfl
    rw [e, h0, dtM_apply, hd, ← EReal.coe_sub, sub_self, EReal.coe_zero]
  refine ⟨h0, h1, ?_⟩
  have e : dt2 x (ix2 h t) = (dt1 x (ix2 h t) - dt1 x (ix2 h t) : EReal) := rfl
  rw [e, h1, sub_zero]

end Cert.K
-- ==== Proof.KVal4.lean ====
/- The kernel's point, element by element, at exact numbers. -/
module

public import proofs.«01_k».proof.Proof.KVal3
public import proofs.«01_k».proof.Proof.KDec
public import Idealize.ShloMosaic.Lib.Pipeline.Value

@[expose] public section

set_option maxRecDepth 16384

noncomputable section

namespace Cert.K

open Idealize.ShloMosaic Idealize.ShloMosaic.TcCoe Idealize.ShloMosaic.Tactic Cert.KernelIdeal Cert.KernelIdeal.Gen

/-- The group's decays, at an element. -/
theorem ldD_apply (i : grid0.Coords) (D : Vec Ideal S4x384x8 .f32) (g : Fin 4) (hg : (i 1).val = g.val) (s : Fin 384) (r : Fin 8) :
    ldD i D (ix3 0 s r) = D (ix3 g s r) := by
  unfold ldD
  refine congrArg D (funext fun d => Fin.ext ?_)
  show k0_off1 i d + 1 * ((ix3 (0 : Fin 1) s r) d).val = _
  rw [off1_eq]
  match d with
  | ⟨0, _⟩ => show (i 1).val + 1 * 0 = g.val; omega
  | ⟨1, _⟩ => show 0 + 1 * s.val = s.val; omega
  | ⟨2, _⟩ => show 0 + 1 * r.val = r.val; omega

/-- The group's `C`, at an element. -/
theorem ldC_apply (i : grid0.Coords) (C : Vec Ideal S4x384x256 .bf16) (g : Fin 4) (hg : (i 1).val = g.val) (s : Fin 384) (k : Fin 256) :
    ldC i C (ix3 0 s k) = C (ix3 g s k) := by
  unfold ldC
  refine congrArg C (funext fun d => Fin.ext ?_)
  show k0_off2 i d + 1 * ((ix3 (0 : Fin 1) s k) d).val = _
  rw [off2_eq]
  match d with
  | ⟨0, _⟩ => show (i 1).val + 1 * 0 = g.val; omega
  | ⟨1, _⟩ => show 0 + 1 * s.val = s.val; omega
  | ⟨2, _⟩ => show 0 + 1 * k.val = k.val; omega

/-- The group's scales, at an element. -/
theorem ldX_apply (i : grid0.Coords) (X : Vec Ideal S1x32x256 .f32) (g : Fin 4) (hg : (i 1).val = g.val) (r : Fin 8) (n : Fin 256) :
    ldX i X (ix3 0 r n) = X (ix3 0 (⟨8 * g.val + r.val, by omega⟩ : Fin 32) n) := by
  unfold ldX
  refine congrArg X (funext fun d => Fin.ext ?_)
  show k0_off3 i d + 1 * ((ix3 (0 : Fin 1) r n) d).val = _
  rw [off3_eq]
  match d with
  | ⟨0, _⟩ => show 0 + 1 * 0 = 0; omega
  | ⟨1, _⟩ => show 8 * (i 1).val + 1 * r.val = 8 * g.val + r.val; omega
  | ⟨2, _⟩ => show 0 + 1 * n.val = n.val; omega

/-- A head's slice of a window of codes or states, at an element. -/
theorem ldHead_apply {e : EltTy} (x : S1x8x128x256.Idx → Elt Ideal e) (r : ℕ) (h : r < 8) (p : Fin 128) (n : Fin 256) :
    (View.ld (Val := Elt Ideal) (e' := e) x (Rect.unit (s := S1x8x128x256) ![0, r, 0, 0] S1x1x128x256.size (inbHead h))) (ix4 0 0 p n)
      = x (ix4 0 (⟨r, h⟩ : Fin 8) p n) := by
  refine congrArg x (funext fun d => Fin.ext ?_)
  match d with
  | ⟨0, _⟩ => show 0 + 1 * 0 = 0; omega
  | ⟨1, _⟩ => show r + 1 * 0 = r; omega
  | ⟨2, _⟩ => show 0 + 1 * p.val = p.val; omega
  | ⟨3, _⟩ => show 0 + 1 * n.val = n.val; omega

/-- A head's lanes of the window of outputs, at an element. -/
theorem ldLane_apply (x : Vec Ideal S1x384x1024 .bf16) (r : ℕ) (h : r < 8) (s : Fin 384) (p : Fin 128) :
    (View.ld x (Rect.unit (s := S1x384x1024) ![0, 0, 128 * r] S1x384x128.size (inbLane h))) (ix3 0 s p)
      = x (ix3 0 s (⟨128 * r + p.val, by omega⟩ : Fin 1024)) := by
  refine congrArg x (funext fun d => Fin.ext ?_)
  match d with
  | ⟨0, _⟩ => show 0 + 1 * 0 = 0; omega
  | ⟨1, _⟩ => show 0 + 1 * s.val = s.val; omega
  | ⟨2, _⟩ => show 128 * r + 1 * p.val = 128 * r + p.val; omega

/-- A head's states, at an element. -/
theorem headV_apply (v4 : Vec Ideal S1x384x8 .f32) (v13 : Vec Ideal S1x8x256 .f32) (x4 : Vec Ideal S1x8x128x256 .fp8e4m3)
    (x6 : Vec Ideal S1x8x128x256 .f32) (r : ℕ) (h : r < 8) (p : Fin 128) (n : Fin 256) :
    headV v4 v13 x4 x6 r h (ix2 p n)
      = v4 (ix3 0 383 ⟨r, h⟩) * (x4 (ix4 0 ⟨r, h⟩ p n) * v13 (ix3 0 ⟨r, h⟩ n)) + x6 (ix4 0 ⟨r, h⟩ p n) := by
  unfold headV
  rw [hV_apply, pay15_apply, pay16_apply, ldHead_apply _ r h, ldHead_apply _ r h]

/-- A head's initial states, at an element. -/
theorem headB_apply (v13 : Vec Ideal S1x8x256 .f32) (x4 : Vec Ideal S1x8x128x256 .fp8e4m3) (r : ℕ) (h : r < 8) (p : Fin 128) (n : Fin 256) :
    headB v13 x4 r h (ix2 p n) = x4 (ix4 0 ⟨r, h⟩ p n) * v13 (ix3 0 ⟨r, h⟩ n) := by
  unfold headB
  rw [hB_apply, pay16_apply, ldHead_apply _ r h]

/-- A head's outputs, at an element. -/
theorem headY_apply (v4 : Vec Ideal S1x384x8 .f32) (v7 : Vec Ideal S1x384x256 .bf16) (v13 : Vec Ideal S1x8x256 .f32)
    (x0 : Vec Ideal S1x384x1024 .bf16) (x4 : Vec Ideal S1x8x128x256 .fp8e4m3) (r : ℕ) (h : r < 8) (s : Fin 384) (p : Fin 128) :
    headY v4 v7 v13 x0 x4 r h (ix3 0 s p)
      = x0 (ix3 0 s (⟨128 * r + p.val, by omega⟩ : Fin 1024))
        + (∑ k : Fin 256, v7 (ix3 0 s k) * (x4 (ix4 0 ⟨r, h⟩ p k) * v13 (ix3 0 ⟨r, h⟩ k))) * v4 (ix3 0 s ⟨r, h⟩) := by
  unfold headY
  rw [hOutY_apply, pay13_apply, ldLane_apply _ r h, hDot_apply]
  congr 2
  refine Finset.sum_congr rfl fun k _ => ?_
  rw [pay14_apply]
  congr 1
  rcases Nat.mod_two_eq_zero_or_one r with h0 | h1
  · rw [dif_pos (by show 128 * (r % 2) + p.val < 128; omega), headB_apply]
    have er : (⟨2 * (r / 2), by omega⟩ : Fin 8) = ⟨r, h⟩ := Fin.ext (by show 2 * (r / 2) = r; omega)
    have ep : ∀ hh, (⟨128 * (r % 2) + p.val, hh⟩ : Fin 128) = p := fun hh => Fin.ext (by show 128 * (r % 2) + p.val = p.val; omega)
    rw [er, ep]
  · rw [dif_neg (by show ¬ 128 * (r % 2) + p.val < 128; omega), headB_apply]
    have er : (⟨2 * (r / 2) + 1, by omega⟩ : Fin 8) = ⟨r, h⟩ := Fin.ext (by show 2 * (r / 2) + 1 = r; omega)
    have ep : ∀ hh, (⟨128 * (r % 2) + p.val - 128, hh⟩ : Fin 128) = p := fun hh => Fin.ext (by show 128 * (r % 2) + p.val - 128 = p.val; omega)
    rw [er, ep]

/-- A batch's decays in the scratch's layout, at an element. -/
theorem decAll_apply (x2 : Vec Ideal S1x32x384 .f32) (x3 : Vec Ideal S1x32 .f32) (g : Fin 4) (s : Fin 384) (r : Fin 8) :
    decAll x2 x3 (ix3 g s r) = decV x2 x3 (ix2 s (⟨8 * g.val + r.val, by omega⟩ : Fin 32)) := by
  unfold decAll
  generalize decV x2 x3 = w
  show shapeCast S1x384x8 (extractStridedSlice S384x8 ![0, 8 * g.val] w (slicesDec g.isLt)) shapeCasts_S384x8_S1x384x8 (ix3 (0 : Fin 1) s r) = _
  pointwise

/-- A batch's `C` in the scratch's layout, at an element. -/
theorem cAll_apply (x1 : Vec Ideal S1x384x4x256 .bf16) (g : Fin 4) (s : Fin 384) (k : Fin 256) :
    cAll x1 (ix3 g s k) = x1 (ix4 0 s g k) := by
  unfold cAll
  show shapeCast S1x384x256 (shapeCast S384x256 (View.ld x1 (Rect.unit (s := S1x384x4x256) ![0, 0, g.val, 0]
    S1x384x1x256.size (inbC g.isLt))) shapeCasts_S1x384x1x256_S384x256) shapeCasts_S384x256_S1x384x256 (ix3 (0 : Fin 1) s k) = _
  rw [View.ld_unit]
  pointwise

end Cert.K
-- ==== Proof.KFinal.lean ====
/- The arrays the kernel's run ends with, element by element, and its frame. -/
module

public import proofs.«01_k».proof.Proof.KData
public import Idealize.ShloMosaic.Lib.Pipeline.ArrRel
public import Idealize.ShloMosaic.Lib.Pipeline.ValueKit.Geometry
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Cert.K
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

variable (m : (ℓ : Loc nD τ sig) → Buf (Elt F) ℓ) (ρ : Dev nD → PrngReg)

/-! ## The blocks of the windows, by point -/

/-- Where each window's block lies, by point. -/
theorem index0_0 : ∀ t : Fin grid0.N, win0_0.index t = ![t.val / 4, 0, t.val % 4] := by decide +kernel
/-- The block window 1 is at, point by point. -/
theorem index0_1 : ∀ t : Fin grid0.N, win0_1.index t = ![t.val / 4, 0, 0, 0] := by decide +kernel
/-- The block window 2 is at, point by point. -/
theorem index0_2 : ∀ t : Fin grid0.N, win0_2.index t = ![t.val / 4, 0, 0] := by decide +kernel
/-- The block window 3 is at, point by point. -/
theorem index0_3 : ∀ t : Fin grid0.N, win0_3.index t = ![0, 0] := by decide +kernel
/-- The block window 4 is at, point by point. -/
theorem index0_4 : ∀ t : Fin grid0.N, win0_4.index t = ![t.val / 4, t.val % 4, 0, 0] := by decide +kernel
/-- The block window 5 is at, point by point. -/
theorem index0_5 : ∀ t : Fin grid0.N, win0_5.index t = ![t.val / 4, 0, 0] := by decide +kernel
/-- The block window 6 is at, point by point. -/
theorem index0_6 : ∀ t : Fin grid0.N, win0_6.index t = ![t.val / 4, t.val % 4, 0, 0] := by decide +kernel
/-- The block window 7 is at, point by point. -/
theorem index0_7 : ∀ t : Fin grid0.N, win0_7.index t = ![t.val / 4, 0, t.val % 4] := by decide +kernel
/-- The block window 8 is at, point by point. -/
theorem index0_8 : ∀ t : Fin grid0.N, win0_8.index t = ![t.val / 4, t.val % 4, 0, 0] := by decide +kernel
/-- The block window 9 is at, point by point. -/
theorem index0_9 : ∀ t : Fin grid0.N, win0_9.index t = ![t.val / 4, 0, 0] := by decide +kernel

/-- The point of batch `b`, group `g`. -/
def gpt (b g : ℕ) : Fin cfg0.N := ⟨(4 * b + g) % 20, by rw [show cfg0.N = 20 from N_0]; omega⟩

/-! ## The final arrays -/

/-- The outputs, as an array. -/
def YK (c : Dev nD) : S5x384x4096.Idx → F .bf16 := fun i =>
  ptY m c (gpt (i 0).val ((i 2).val / 1024)) (ix3 (0 : Fin 1) (i 1) (⟨(i 2).val % 1024, Nat.mod_lt _ (by decide)⟩ : Fin 1024))

/-- The codes, as an array. -/
def QK (c : Dev nD) : S5x32x128x256.Idx → F .fp8e4m3 := fun i =>
  ptQ m c (gpt (i 0).val ((i 1).val / 8)) (ix4 (0 : Fin 1) (⟨(i 1).val % 8, Nat.mod_lt _ (by decide)⟩ : Fin 8) (i 2) (i 3))

/-- The scales, as an array. -/
def SK (c : Dev nD) : S5x32x256.Idx → F .f32 := fun i => ptS m c (4 * (i 0).val) (i 1) (i 2)

/-- The array of outputs, from what the points leave. -/
theorem final7 (c : Dev nD) (D : Dat τ (Elt F) Unit ℕ (UR sig nD τ) ℕ cfg0 c)
    (h : ∀ t, (cfg0.win 7).flush t = true → D.after 7 t = ptY m c t) : D.arrAt 7 cfg0.N = YK m c := by
  refine D.arrAt_eq_of_covers 7 _ (by decide +kernel) fun t hf y => ?_
  have hN : t.val < 20 := lt_of_lt_of_eq t.isLt (show cfg0.N = 20 from N_0)
  obtain ⟨a, b, d, rfl⟩ : ∃ (a : Fin 1) (b : Fin 384) (d : Fin 1024), y = ix3 a b d := ⟨y 0, y 1, y 2, eq_ix3 y⟩
  obtain rfl : a = 0 := Subsingleton.elim _ _
  have he : ((cfg0.win 7).blk t).view.emb (ix3 0 b d)
      = ix3 (⟨t.val / 4, by omega⟩ : Fin 5) b (⟨(t.val % 4) * 1024 + d.val, by omega⟩ : Fin 4096) := by
    funext e
    refine Fin.ext ?_
    match e with
    | ⟨0, _⟩ => blk_simp [index0_7]; try simp
    | ⟨1, _⟩ => blk_simp [index0_7]; try simp
    | ⟨2, _⟩ => blk_simp [index0_7]; try simp
  refine Eq.trans (congrFun (h t hf) (ix3 0 b d)) ?_
  rw [he]
  have e1 : gpt (t.val / 4) ((t.val % 4 * 1024 + d.val) / 1024) = t :=
    Fin.ext (by show (4 * (t.val / 4) + (t.val % 4 * 1024 + d.val) / 1024) % 20 = t.val; omega)
  have e2 : (⟨(t.val % 4 * 1024 + d.val) % 1024, Nat.mod_lt _ (by decide)⟩ : Fin 1024) = d := Fin.ext (by show (t.val % 4 * 1024 + d.val) % 1024 = d.val; omega)
  show _ = ptY m c (gpt (t.val / 4) ((t.val % 4 * 1024 + d.val) / 1024)) (ix3 (0 : Fin 1) b (⟨(t.val % 4 * 1024 + d.val) % 1024, _⟩ : Fin 1024))
  rw [e1, e2]

/-- The array of codes, from what the points leave. -/
theorem final8 (c : Dev nD) (D : Dat τ (Elt F) Unit ℕ (UR sig nD τ) ℕ cfg0 c)
    (h : ∀ t, (cfg0.win 8).flush t = true → D.after 8 t = ptQ m c t) : D.arrAt 8 cfg0.N = QK m c := by
  refine D.arrAt_eq_of_covers 8 _ (by decide +kernel) fun t hf y => ?_
  have hN : t.val < 20 := lt_of_lt_of_eq t.isLt (show cfg0.N = 20 from N_0)
  obtain ⟨a, r, b, d, rfl⟩ : ∃ (a : Fin 1) (r : Fin 8) (b : Fin 128) (d : Fin 256), y = ix4 a r b d := ⟨y 0, y 1, y 2, y 3, eq_ix4 y⟩
  obtain rfl : a = 0 := Subsingleton.elim _ _
  have he : ((cfg0.win 8).blk t).view.emb (ix4 0 r b d)
      = ix4 (⟨t.val / 4, by omega⟩ : Fin 5) (⟨(t.val % 4) * 8 + r.val, by omega⟩ : Fin 32) b d := by
    funext e
    refine Fin.ext ?_
    match e with
    | ⟨0, _⟩ => blk_simp [index0_8]; try simp
    | ⟨1, _⟩ => blk_simp [index0_8]; try simp
    | ⟨2, _⟩ => blk_simp [index0_8]; try simp
    | ⟨3, _⟩ => blk_simp [index0_8]; try simp
  refine Eq.trans (congrFun (h t hf) (ix4 0 r b d)) ?_
  rw [he]
  have e1 : gpt (t.val / 4) ((t.val % 4 * 8 + r.val) / 8) = t :=
    Fin.ext (by show (4 * (t.val / 4) + (t.val % 4 * 8 + r.val) / 8) % 20 = t.val; omega)
  have e2 : (⟨(t.val % 4 * 8 + r.val) % 8, Nat.mod_lt _ (by decide)⟩ : Fin 8) = r := Fin.ext (by show (t.val % 4 * 8 + r.val) % 8 = r.val; omega)
  show _ = ptQ m c (gpt (t.val / 4) ((t.val % 4 * 8 + r.val) / 8)) (ix4 (0 : Fin 1) (⟨(t.val % 4 * 8 + r.val) % 8, _⟩ : Fin 8) b d)
  rw [e1, e2]

/-- The points of one batch name the same scales. -/
theorem ptS_batch (c : Dev nD) (k k' : ℕ) (hk : k / 4 = k' / 4) (row : Fin 32) (n : Fin 256) : ptS m c k row n = ptS m c k' row n := by
  have hb : ∀ g, bpt k g = bpt k' g := fun g => Fin.ext (by show (4 * (k / 4) + g % 4) % 20 = (4 * (k' / 4) + g % 4) % 20; rw [hk])
  unfold ptS ptD
  rw [hb, hb]

/-- The array of scales, from what the points leave. -/
theorem final9 (c : Dev nD) (D : Dat τ (Elt F) Unit ℕ (UR sig nD τ) ℕ cfg0 c)
    (h : ∀ t, (cfg0.win 9).flush t = true → ∀ (row : Fin 32) (n : Fin 256), row.val < 8 * (t.val % 4) + 8 → D.after 9 t (ix3 (0 : Fin 1) row n) = ptS m c t.val row n) :
    D.arrAt 9 cfg0.N = SK m c := by
  refine D.arrAt_eq_of_covers 9 _ (by decide +kernel) fun t hf y => ?_
  have hN : t.val < 20 := lt_of_lt_of_eq t.isLt (show cfg0.N = 20 from N_0)
  have h3 : t.val % 4 = 3 := (flush0_9 t).mp hf
  obtain ⟨a, b, d, rfl⟩ : ∃ (a : Fin 1) (b : Fin 32) (d : Fin 256), y = ix3 a b d := ⟨y 0, y 1, y 2, eq_ix3 y⟩
  obtain rfl : a = 0 := Subsingleton.elim _ _
  have he : ((cfg0.win 9).blk t).view.emb (ix3 0 b d) = ix3 (⟨t.val / 4, by omega⟩ : Fin 5) b d := by
    funext e
    refine Fin.ext ?_
    match e with
    | ⟨0, _⟩ => blk_simp [index0_9]; try simp
    | ⟨1, _⟩ => blk_simp [index0_9]; try simp
    | ⟨2, _⟩ => blk_simp [index0_9]; try simp
  refine Eq.trans (h t hf b d (by omega)) ?_
  rw [he]
  exact ptS_batch m c t.val (4 * (t.val / 4)) (by omega) b d

/-! ## The run -/

/-- The run, read: the results at their arrays, the arguments unchanged, nothing left pending. -/
theorem run_values : θ_run defs (onTc (τ := τ) (main (F := F))) ⟨m, fun _ => 0, ρ⟩ (fun r => (∀ c : Dev nD,
      r.2.mem ((c.tc : Thread nD τ).loc main_v2_0) = YK m c
      ∧ r.2.mem ((c.tc : Thread nD τ).loc main_v2_1) = QK m c
      ∧ r.2.mem ((c.tc : Thread nD τ).loc main_v2_2) = SK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_main_quiescent m ρ)
  have hr := h.1
  haveI : ∀ e : EltTy, Nonempty (Elt F e) := fun e => inferInstance
  obtain ⟨after, hl, ha⟩ := Pipeline.RDat.FramePost.exists_exact hr c
  have hA : ∀ w, (rdat m c).A w = V m c (Pipeline.arrRef spec0 w) := A_eq m c
  refine ⟨(ha 7).trans (final7 m c _ fun t hf => ?_), (ha 8).trans (final8 m c _ fun t hf => ?_), (ha 9).trans (final9 m c _ fun t hf => ?_),
    (Pipeline.RDat.FramePost.arr_in hr c 0 rfl).trans ((hA 0).trans (V_main_arg0 m c)),
    (Pipeline.RDat.FramePost.arr_in hr c 1 rfl).trans ((hA 1).trans (V_main_arg1 m c)),
    ((hr c).2 main_arg2 (Pipeline.mem_restRefs_of main_arg2 (by decide) (by decide))).trans (V_main_arg2 m c),
    ((hr c).2 main_arg3 (Pipeline.mem_restRefs_of main_arg3 (by decide) (by decide))).trans (V_main_arg3 m c),
    (Pipeline.RDat.FramePost.arr_in hr c 4 rfl).trans ((hA 4).trans (V_main_arg4 m c)),
    (Pipeline.RDat.FramePost.arr_in hr c 5 rfl).trans ((hA 5).trans (V_main_arg5 m c)),
    (Pipeline.RDat.FramePost.arr_in hr c 6 rfl).trans ((hA 6).trans (V_main_arg6 m c))⟩
  · exact (dats m 0 c).toRRel_leaves (fgt := marks0) (Rl := Rl0 m c) (w := 7) rfl (hl 7 t hf)
  · exact (dats m 0 c).toRRel_leaves (fgt := marks0) (Rl := Rl0 m c) (w := 8) rfl (hl 8 t hf)
  · exact (dats m 0 c).toRRel_leaves (fgt := marks0) (Rl := Rl0 m c) (w := 9) rfl (hl 9 t hf)

end Cert.KernelIdeal.Gen
-- ==== Proof.KBlk.lean ====
/- The kernel's windows at a point, read from the argument arrays. -/
module

public import proofs.«01_k».proof.Proof.KFinal
public import Idealize.ShloMosaic.Lib.Pipeline.ValueKit
public import Idealize.ShloMosaic.Lib.Pipeline.ValueKit.Geometry
public import Idealize.ShloMosaic.Lib.Claim
public import Idealize.ShloMosaic.Lib.Pointwise

@[expose] public section

set_option maxRecDepth 16384

noncomputable section

namespace Cert.K

open Idealize.ShloMosaic Idealize.ShloMosaic.TcCoe Idealize.ShloMosaic.Tactic Cert.KernelIdeal Cert.KernelIdeal.Gen

variable (m : (ℓ : Loc nD τ sig) → Buf (Elt Ideal) ℓ)

/-- The arguments on a device. -/
abbrev a0 (c : Dev nD) : S5x384x4096.Idx → EReal := m ((c.tc : Thread nD τ).loc main_arg0)
@[inherit_doc a0] abbrev a1 (c : Dev nD) : S5x384x4x256.Idx → EReal := m ((c.tc : Thread nD τ).loc main_arg1)
@[inherit_doc a0] abbrev a2 (c : Dev nD) : S5x384x32.Idx → EReal := m ((c.tc : Thread nD τ).loc main_arg2)
@[inherit_doc a0] abbrev a3 (c : Dev nD) : S32.Idx → EReal := m ((c.tc : Thread nD τ).loc main_arg3)
@[inherit_doc a0] abbrev a4 (c : Dev nD) : S5x32x128x256.Idx → EReal := m ((c.tc : Thread nD τ).loc main_arg4)
@[inherit_doc a0] abbrev a5 (c : Dev nD) : S5x32x256.Idx → EReal := m ((c.tc : Thread nD τ).loc main_arg5)
@[inherit_doc a0] abbrev a6 (c : Dev nD) : S5x32x128x256.Idx → EReal := m ((c.tc : Thread nD τ).loc main_arg6)

/-- The region finds the step sizes transposed. -/
theorem V_v0 (c : Dev nD) : V m c main_v0 = (transpose S5x32x384 [0, 2, 1] (a2 m c) transposes_S5x384x32_S5x32x384_0_2_1 : S5x32x384.Idx → EReal) := by
  entry_read
  rfl

/-- The region finds the logarithms as a row. -/
theorem V_v1 (c : Dev nD) : V m c main_v1 = (shapeCast S1x32 (a3 m c) shapeCasts_S32_S1x32 : S1x32.Idx → EReal) := by
  entry_read
  rfl

variable (t : Fin grid0.N) (b : Fin 5) (g : Fin 4) (ht : t.val = 4 * b.val + g.val)
include ht

/-- Window 0 at a point of batch `b` and group `g`. -/
theorem kblk0 (c : Dev nD) (s : Fin 384) (l : Fin 1024) :
    iblk m c 0 t (ix3 0 s l) = a0 m c (ix3 b s (⟨1024 * g.val + l.val, by omega⟩ : Fin 4096)) := by
  have e : a0 m c = V m c main_arg0 := (V_main_arg0 m c).symm
  rw [e]
  blk_simp [iblk]
  congr 1
  funext d
  refine Fin.ext ?_
  match d with
  | ⟨0, _⟩ => blk_simp [index0_0]; (try simp); (try omega)
  | ⟨1, _⟩ => blk_simp [index0_0]; (try simp); (try omega)
  | ⟨2, _⟩ => blk_simp [index0_0]; (try simp); (try omega)

/-- Window 1 at a point. -/
theorem kblk1 (c : Dev nD) (s : Fin 384) (q : Fin 4) (k : Fin 256) :
    iblk m c 1 t (ix4 0 s q k) = a1 m c (ix4 b s q k) := by
  have e : a1 m c = V m c main_arg1 := (V_main_arg1 m c).symm
  rw [e]
  blk_simp [iblk]
  congr 1
  funext d
  refine Fin.ext ?_
  match d with
  | ⟨0, _⟩ => blk_simp [index0_1]; (try simp); (try omega)
  | ⟨1, _⟩ => blk_simp [index0_1]; (try simp); (try omega)
  | ⟨2, _⟩ => blk_simp [index0_1]; (try simp); (try omega)
  | ⟨3, _⟩ => blk_simp [index0_1]; (try simp); (try omega)

/-- Window 2 at a point. -/
theorem kblk2 (c : Dev nD) (h : Fin 32) (s : Fin 384) :
    iblk m c 2 t (ix3 0 h s) = a2 m c (ix3 b s h) := by
  have e : a2 m c (ix3 b s h) = V m c main_v0 (ix3 b h s) := by
    rw [V_v0]
    generalize a2 m c = w
    pointwise
  rw [e]
  blk_simp [iblk]
  congr 1
  funext d
  refine Fin.ext ?_
  match d with
  | ⟨0, _⟩ => blk_simp [index0_2]; (try simp); (try omega)
  | ⟨1, _⟩ => blk_simp [index0_2]; (try simp); (try omega)
  | ⟨2, _⟩ => blk_simp [index0_2]; (try simp); (try omega)

omit ht in
/-- Window 3 at a point. -/
theorem kblk3 (c : Dev nD) (h : Fin 32) :
    iblk m c 3 t (ix2 0 h) = a3 m c (ix1 h) := by
  have e : a3 m c (ix1 h) = V m c main_v1 (ix2 0 h) := by
    rw [V_v1]
    generalize a3 m c = w
    pointwise
  rw [e]
  blk_simp [iblk]
  congr 1
  funext d
  refine Fin.ext ?_
  match d with
  | ⟨0, _⟩ => blk_simp [index0_3]; (try simp); (try omega)
  | ⟨1, _⟩ => blk_simp [index0_3]; (try simp); (try omega)

/-- Window 4 at a point. -/
theorem kblk4 (c : Dev nD) (r : Fin 8) (p : Fin 128) (n : Fin 256) :
    iblk m c 4 t (ix4 0 r p n) = a4 m c (ix4 b (⟨8 * g.val + r.val, by omega⟩ : Fin 32) p n) := by
  have e : a4 m c = V m c main_arg4 := (V_main_arg4 m c).symm
  rw [e]
  blk_simp [iblk]
  congr 1
  funext d
  refine Fin.ext ?_
  match d with
  | ⟨0, _⟩ => blk_simp [index0_4]; (try simp); (try omega)
  | ⟨1, _⟩ => blk_simp [index0_4]; (try simp); (try omega)
  | ⟨2, _⟩ => blk_simp [index0_4]; (try simp); (try omega)
  | ⟨3, _⟩ => blk_simp [index0_4]; (try simp); (try omega)

/-- Window 5 at a point. -/
theorem kblk5 (c : Dev nD) (h : Fin 32) (n : Fin 256) :
    iblk m c 5 t (ix3 0 h n) = a5 m c (ix3 b h n) := by
  have e : a5 m c = V m c main_arg5 := (V_main_arg5 m c).symm
  rw [e]
  blk_simp [iblk]
  congr 1
  funext d
  refine Fin.ext ?_
  match d with
  | ⟨0, _⟩ => blk_simp [index0_5]; (try simp); (try omega)
  | ⟨1, _⟩ => blk_simp [index0_5]; (try simp); (try omega)
  | ⟨2, _⟩ => blk_simp [index0_5]; (try simp); (try omega)

/-- Window 6 at a point. -/
theorem kblk6 (c : Dev nD) (r : Fin 8) (p : Fin 128) (n : Fin 256) :
    iblk m c 6 t (ix4 0 r p n) = a6 m c (ix4 b (⟨8 * g.val + r.val, by omega⟩ : Fin 32) p n) := by
  have e : a6 m c = V m c main_arg6 := (V_main_arg6 m c).symm
  rw [e]
  blk_simp [iblk]
  congr 1
  funext d
  refine Fin.ext ?_
  match d with
  | ⟨0, _⟩ => blk_simp [index0_6]; (try simp); (try omega)
  | ⟨1, _⟩ => blk_simp [index0_6]; (try simp); (try omega)
  | ⟨2, _⟩ => blk_simp [index0_6]; (try simp); (try omega)
  | ⟨3, _⟩ => blk_simp [index0_6]; (try simp); (try omega)

end Cert.K
-- ==== Proof.KSpec.lean ====
/- The kernel's results, element by element: the corrected outputs, the codes and the scales of the problem's mathematics. -/
module

public import proofs.«01_k».proof.Proof.KVal4
public import proofs.«01_k».proof.Proof.KBlk

@[expose] public section

set_option maxRecDepth 16384

noncomputable section

namespace Cert.K

open Idealize.ShloMosaic Idealize.ShloMosaic.TcCoe Idealize.ShloMosaic.Tactic Cert.KernelIdeal Cert.KernelIdeal.Gen

/-- The decays: the exponential of the running sum of `-exp(a_log) · dt`. -/
def decS (dt : S5x384x32.Idx → EReal) (al : S32.Idx → EReal) (b : Fin 5) (s : Fin 384) (h : Fin 32) : EReal :=
  Ideal.exp (∑ t : Fin 384, if t.val ≤ s.val then -(Ideal.exp (al (ix1 h))) * dt (ix3 b t h) else 0)

/-- Sums of reals are reals. -/
theorem coe_sum' {n : ℕ} (f : Fin n → ℝ) : ((∑ t, f t : ℝ) : EReal) = ∑ t, (f t : EReal) := by
  have h : ∀ s : Finset (Fin n), ((∑ t ∈ s, f t : ℝ) : EReal) = ∑ t ∈ s, (f t : EReal) := by
    intro s
    induction s using Finset.induction_on with
    | empty => simp
    | insert a s ha ih => rw [Finset.sum_insert ha, Finset.sum_insert ha, EReal.coe_add, ih]
  exact h Finset.univ

/-- The kernel's decays where the step sizes are finite and the rate is. -/
theorem pay2_val (x : Vec Ideal S1x32x384 .f32) (a : Vec Ideal S1x32 .f32) (s : Fin 384) (h : Fin 32) (d : Fin 384 → ℝ)
    (hd : ∀ t, x (ix3 0 h t) = (d t : EReal)) (e : ℝ) (he : Ideal.exp (a (ix2 0 h)) = (e : EReal)) :
    k0_pay2 x a (ix2 s h) = Ideal.exp (∑ t : Fin 384, if t.val ≤ s.val then -(e : EReal) * (d t : EReal) else 0) := by
  have z2 : triDot (dt2 x) (ix2 s h) = (0 : EReal) := by
    rw [triDot_apply]
    exact Finset.sum_eq_zero fun t _ => by rw [(parts x h t (d t) (hd t)).2.2, mul_zero]
  have z1 : triDot (dt1 x) (ix2 s h) = (0 : EReal) := by
    rw [triDot_apply]
    exact Finset.sum_eq_zero fun t _ => by rw [(parts x h t (d t) (hd t)).2.1, mul_zero]
  have z0 : triDot (dt0 x) (ix2 s h) = ((∑ t : Fin 384, if t.val ≤ s.val then d t else 0 : ℝ) : EReal) := by
    rw [triDot_apply, coe_sum']
    refine Finset.sum_congr rfl fun t _ => ?_
    rw [(parts x h t (d t) (hd t)).1]
    split_ifs
    · rw [one_mul]
    · rw [zero_mul, EReal.coe_zero]
  have r : (∑ t : Fin 384, if t.val ≤ s.val then -(e : EReal) * (d t : EReal) else 0)
      = ((∑ t : Fin 384, if t.val ≤ s.val then -e * d t else 0 : ℝ) : EReal) := by
    rw [coe_sum']
    refine Finset.sum_congr rfl fun t _ => ?_
    split_ifs
    · rw [EReal.coe_mul, EReal.coe_neg]
    · rw [EReal.coe_zero]
  rw [pay2_apply, z2, z1, z0, he, r]
  congr 1
  rw [add_zero, add_zero, zero_add, zero_sub, ← EReal.coe_neg, ← EReal.coe_mul]
  congr 1
  rw [Finset.sum_mul]
  refine Finset.sum_congr rfl fun t _ => ?_
  split_ifs <;> ring

variable (m : (ℓ : Loc nD τ sig) → Buf (Elt Ideal) ℓ) (c : Dev nD)

/-- The step sizes are finite and the logarithms are not positive infinity. -/
def Finite : Prop :=
  (∀ b s h, ∃ d : ℝ, a2 m c (ix3 b s h) = (d : EReal)) ∧ ∀ h, a3 m c (ix1 h) < ⊤

variable (hfin : Finite m c)
include hfin

/-- A batch's decays in the scratch are the decays. -/
theorem ptD_val (n : ℕ) (b : Fin 5) (hn : n / 4 = b.val) (g : Fin 4) (s : Fin 384) (r : Fin 8) :
    ptD m c n (ix3 g s r) = decS (a2 m c) (a3 m c) b s (⟨8 * g.val + r.val, by omega⟩ : Fin 32) := by
  unfold ptD
  rw [decAll_apply]
  generalize (⟨8 * g.val + r.val, _⟩ : Fin 32) = h
  have hv : (bpt n 0).val = 4 * b.val + (0 : Fin 4).val := by
    show (4 * (n / 4) + 0 % 4) % 20 = 4 * b.val + 0
    omega
  choose d hd using fun t => hfin.1 b t h
  have hx : ∀ t, iblk m c 2 (bpt n 0) (ix3 0 h t) = (d t : EReal) := fun t => by
    rw [kblk2 m (bpt n 0) b 0 hv c h t, hd]
  obtain ⟨e, he⟩ : ∃ e : ℝ, Ideal.exp (a3 m c (ix1 h)) = (e : EReal) := by
    have hlt := hfin.2 h
    generalize a3 m c (ix1 h) = y at hlt ⊢
    induction y using EReal.rec with
    | bot => exact ⟨0, Ideal.exp_bot⟩
    | coe y => exact ⟨Real.exp y, Ideal.exp_coe y⟩
    | top => exact absurd hlt (lt_irrefl _)
  have ha : Ideal.exp (iblk m c 3 (bpt n 0) (ix2 0 h)) = (e : EReal) := by
    rw [kblk3 m (bpt n 0) c h, he]
  unfold decV decS
  rw [View.ld_unit_zero (by funext a; fin_cases a <;> rfl), View.ld_unit_zero (by funext a; fin_cases a <;> rfl)]
  rw [pay2_val (iblk m c 2 (bpt n 0)) (iblk m c 3 (bpt n 0)) s h d hx e ha, he]
  simp only [hd]

/-- A head's states at a point. -/
theorem ptV_val (t : Fin grid0.N) (b : Fin 5) (g : Fin 4) (ht : t.val = 4 * b.val + g.val) (k : ℕ) (hk : k / 4 = b.val)
    (r : Fin 8) (p : Fin 128) (n : Fin 256) :
    ptV (grid0.coords t) (ptD m c k) (iblk m c 4 t) (iblk m c 5 t) (iblk m c 6 t) r (ix2 p n)
      = specV (decS (a2 m c) (a3 m c)) (a4 m c) (a5 m c) (a6 m c) b (⟨8 * g.val + r.val, by omega⟩ : Fin 32) p n := by
  have hg : (grid0.coords t 1).val = g.val := by rw [coord1]; omega
  unfold ptV specV
  rw [headV_apply, ldD_apply _ _ g hg, ldX_apply _ _ g hg, ptD_val m c hfin k b hk, kblk4 m t b g ht, kblk5 m t b g ht, kblk6 m t b g ht]

/-- A head's column maxima over 448 at a point. -/
theorem ptA_val (t : Fin grid0.N) (b : Fin 5) (g : Fin 4) (ht : t.val = 4 * b.val + g.val) (k : ℕ) (hk : k / 4 = b.val)
    (r : Fin 8) (n : Fin 256) :
    hA (ptV (grid0.coords t) (ptD m c k) (iblk m c 4 t) (iblk m c 5 t) (iblk m c 6 t) r) (ix2 0 n)
      = specA (decS (a2 m c) (a3 m c)) (a4 m c) (a5 m c) (a6 m c) b (⟨8 * g.val + r.val, by omega⟩ : Fin 32) n * ((c448 : ℝ) : EReal) := by
  rw [hA_apply]
  simp only [ptV_val m c hfin t b g ht k hk]
  rfl

/-- The kernel's codes are the codes. -/
theorem QK_val (b : Fin 5) (h : Fin 32) (p : Fin 128) (n : Fin 256) :
    QK m c (ix4 b h p n) = specQ (decS (a2 m c) (a3 m c)) (a4 m c) (a5 m c) (a6 m c) b h p n := by
  have hb := b.isLt
  have hh := h.isLt
  have ht : (gpt b.val (h.val / 8)).val = 4 * b.val + (⟨h.val / 8, by omega⟩ : Fin 4).val := by
    show (4 * b.val + h.val / 8) % 20 = 4 * b.val + h.val / 8
    omega
  have hk : (gpt b.val (h.val / 8)).val / 4 = b.val := by
    rw [ht]
    show (4 * b.val + h.val / 8) / 4 = b.val
    omega
  have e : QK m c (ix4 b h p n) = hOutC (ptV (grid0.coords (gpt b.val (h.val / 8))) (ptD m c (gpt b.val (h.val / 8)).val)
    (iblk m c 4 (gpt b.val (h.val / 8))) (iblk m c 5 (gpt b.val (h.val / 8))) (iblk m c 6 (gpt b.val (h.val / 8)))
    (⟨h.val % 8, Nat.mod_lt _ (by decide)⟩ : Fin 8)) (ix4 (0 : Fin 1) (0 : Fin 1) p n) := rfl
  have eh : (⟨8 * (⟨h.val / 8, by omega⟩ : Fin 4).val + (⟨h.val % 8, Nat.mod_lt _ (by decide)⟩ : Fin 8).val, by
      show 8 * (h.val / 8) + h.val % 8 < 32; omega⟩ : Fin 32) = h := Fin.ext (by show 8 * (h.val / 8) + h.val % 8 = h.val; omega)
  rw [e, hOutC_apply, ptV_val m c hfin _ b _ ht _ hk, ptA_val m c hfin _ b _ ht _ hk, eh]
  rfl

/-- The kernel's scales are the scales. -/
theorem SK_val (b : Fin 5) (h : Fin 32) (n : Fin 256) :
    SK m c (ix3 b h n) = specS (decS (a2 m c) (a3 m c)) (a4 m c) (a5 m c) (a6 m c) b h n := by
  have hb := b.isLt
  have hh := h.isLt
  have ht : (bpt (4 * b.val) (h.val / 8)).val = 4 * b.val + (⟨h.val / 8, by omega⟩ : Fin 4).val := by
    show (4 * (4 * b.val / 4) + h.val / 8 % 4) % 20 = 4 * b.val + h.val / 8
    omega
  have hk : 4 * b.val / 4 = b.val := by omega
  have e : SK m c (ix3 b h n) = hOutS (ptV (grid0.coords (bpt (4 * b.val) (h.val / 8))) (ptD m c (4 * b.val))
    (iblk m c 4 (bpt (4 * b.val) (h.val / 8))) (iblk m c 5 (bpt (4 * b.val) (h.val / 8))) (iblk m c 6 (bpt (4 * b.val) (h.val / 8)))
    (⟨h.val % 8, Nat.mod_lt _ (by decide)⟩ : Fin 8)) (ix3 (0 : Fin 1) (0 : Fin 1) n) := rfl
  have eh : (⟨8 * (⟨h.val / 8, by omega⟩ : Fin 4).val + (⟨h.val % 8, Nat.mod_lt _ (by decide)⟩ : Fin 8).val, by
      show 8 * (h.val / 8) + h.val % 8 < 32; omega⟩ : Fin 32) = h := Fin.ext (by show 8 * (h.val / 8) + h.val % 8 = h.val; omega)
  rw [e, hOutS_apply, ptA_val m c hfin _ b _ ht _ hk, eh]
  rfl

/-- The kernel's outputs are the outputs. -/
theorem YK_val (b : Fin 5) (s : Fin 384) (l : Fin 4096) :
    YK m c (ix3 b s l) = specY (decS (a2 m c) (a3 m c)) (a0 m c) (a1 m c) (a4 m c) (a5 m c) b s l := by
  have hb := b.isLt
  have hl := l.isLt
  have ht : (gpt b.val (l.val / 1024)).val = 4 * b.val + (⟨l.val / 1024, by omega⟩ : Fin 4).val := by
    show (4 * b.val + l.val / 1024) % 20 = 4 * b.val + l.val / 1024
    omega
  have hk : (gpt b.val (l.val / 1024)).val / 4 = b.val := by
    rw [ht]
    show (4 * b.val + l.val / 1024) / 4 = b.val
    omega
  have hg : (grid0.coords (gpt b.val (l.val / 1024)) 1).val = (⟨l.val / 1024, by omega⟩ : Fin 4).val := by
    rw [coord1, ht]
    show (4 * b.val + l.val / 1024) % 4 = l.val / 1024
    omega
  generalize hT : gpt b.val (l.val / 1024) = t at ht hk hg
  have hr : l.val % 1024 / 128 < 8 := by omega
  have e : YK m c (ix3 b s l) = headY (ldD (grid0.coords t) (ptD m c t.val)) (ldC (grid0.coords t) (ptC m c t.val))
    (ldX (grid0.coords t) (iblk m c 5 t)) (iblk m c 0 t) (iblk m c 4 t) (l.val % 1024 / 128) hr
    (ix3 (0 : Fin 1) s (⟨l.val % 1024 % 128, Nat.mod_lt _ (by decide)⟩ : Fin 128)) := by rw [← hT]; rfl
  have hv : (bpt t.val 0).val = 4 * b.val + (0 : Fin 4).val := by
    show (4 * (t.val / 4) + 0 % 4) % 20 = 4 * b.val + 0
    omega
  have eC : ∀ k, ptC m c t.val (ix3 (⟨l.val / 1024, by omega⟩ : Fin 4) s k) = a1 m c (ix4 b s (⟨l.val / 1024, by omega⟩ : Fin 4) k) := by
    intro k
    unfold ptC
    rw [cAll_apply, kblk1 m (bpt t.val 0) b 0 hv]
  have hq : l.val / 1024 < 4 := by omega
  have eh : ∀ hh : 8 * (⟨l.val / 1024, hq⟩ : Fin 4).val + (⟨l.val % 1024 / 128, hr⟩ : Fin 8).val < 32, (⟨8 * (⟨l.val / 1024, hq⟩ : Fin 4).val + (⟨l.val % 1024 / 128, hr⟩ : Fin 8).val, hh⟩ : Fin 32) = ⟨l.val / 128, by omega⟩ :=
    fun _ => Fin.ext (by show 8 * (l.val / 1024) + l.val % 1024 / 128 = l.val / 128; omega)
  have ep : (⟨l.val % 1024 % 128, Nat.mod_lt _ (by decide)⟩ : Fin 128) = ⟨l.val % 128, Nat.mod_lt _ (by decide)⟩ :=
    Fin.ext (by show l.val % 1024 % 128 = l.val % 128; omega)
  have el : ∀ (hx : 128 * (l.val % 1024 / 128) + (⟨l.val % 1024 % 128, Nat.mod_lt _ (by decide)⟩ : Fin 128).val < 1024)
      (hy : 1024 * (⟨l.val / 1024, hq⟩ : Fin 4).val + (⟨128 * (l.val % 1024 / 128) + (⟨l.val % 1024 % 128, Nat.mod_lt _ (by decide)⟩ : Fin 128).val, hx⟩ : Fin 1024).val < 4096),
      (⟨1024 * (⟨l.val / 1024, hq⟩ : Fin 4).val + (⟨128 * (l.val % 1024 / 128) + (⟨l.val % 1024 % 128, Nat.mod_lt _ (by decide)⟩ : Fin 128).val, hx⟩ : Fin 1024).val, hy⟩ : Fin 4096) = l :=
    fun _ _ => Fin.ext (by show 1024 * (l.val / 1024) + (128 * (l.val % 1024 / 128) + l.val % 1024 % 128) = l.val; omega)
  rw [e, headY_apply, ldD_apply _ _ _ hg, ptD_val m c hfin _ b hk, kblk0 m t b _ ht, el, eh]
  unfold specY
  congr 2
  refine Finset.sum_congr rfl fun k _ => ?_
  rw [ldC_apply _ _ _ hg, eC, kblk4 m t b _ ht, ldX_apply _ _ _ hg, kblk5 m t b _ ht, eh, ep]

end Cert.K
-- ==== Proof.RHost.lean ====
/- The reference's host arrays and its run, read: each result as a function of the argument arrays. -/
module

public import proofs.«01_k».proof.Proof.Gen.ReferenceIdeal.Value
public import proofs.«01_k».proof.Proof.RVal
public import proofs.«01_k».proof.Proof.Spec
public import Idealize.ShloMosaic.Lib.Pipeline.ValueKit
public import Idealize.ShloMosaic.Lib.Pipeline.ValueKit.Geometry
public import Idealize.ShloMosaic.Lib.Claim
public import Idealize.ShloMosaic.Lib.Pointwise

@[expose] public section

set_option maxRecDepth 16384

noncomputable section

namespace Cert.K.Ref

open Idealize.ShloMosaic Idealize.ShloMosaic.TcCoe Idealize.ShloMosaic.Tactic
open Cert.ReferenceIdeal Cert.ReferenceIdeal.Gen

variable (m : (ℓ : Loc nD τ sig) → Buf (Elt Ideal) ℓ)

/-- The logarithms of the decays' steps. -/
def laR (dt : FVec Ideal S5x384x32 .f32) (al : FVec Ideal S32 .f32) : FVec Ideal S5x384x32 .f32 :=
  mulf (broadcastInDim S5x384x32 ![0, 1, 2] bcast_S1x1x32_S5x384x32_0_1_2 (Host.negf (broadcastInDim S1x1x32 ![2] bcast_S32_S1x1x32_2 (Host.exp al)))) dt

/-- The decays. -/
def decR (dt : FVec Ideal S5x384x32 .f32) (al : FVec Ideal S32 .f32) : FVec Ideal S5x384x32 .f32 :=
  Host.exp (Host.reduceWindowAdd ![1, 384, 1] ![1, 1, 1] ![0, 383, 0] ![0, 0, 0] (laR dt al)
    (broadcastInDim S_ ![] bcast_S_S_ (constant S_ .f32 0x00000000#32 : FVec Ideal S_ .f32)) reduceWindows_S5x384x32_S5x384x32_w1s1p0_0_w384s1p383_0_w1s1p0_0 h_S_)

/-- `C`, group first. -/
def cR (C : FVec Ideal S5x384x4x256 .bf16) : FVec Ideal S5x4x384x256 .bf16 :=
  transpose S5x4x384x256 [0, 2, 1, 3] C transposes_S5x384x4x256_S5x4x384x256_0_2_1_3

/-- The table of powers of two. -/
def tabR : Vec Ideal S246x1x1x1 .f32 :=
  shapeCast S246x1x1x1 (fun i : S246.Idx => Ideal.ofBits .f32 (lit0 (S246.rowMajor i)) : FVec Ideal S246 .f32) shapeCasts_S246_S246x1x1x1

/-- The region finds the decays. -/
theorem V_v6 (c : Dev nD) : V m c main_v6 = decR (m ((c.tc : Thread nD τ).loc main_arg2)) (m ((c.tc : Thread nD τ).loc main_arg3)) := by
  entry_read
  rfl

/-- The region finds `C`, group first. -/
theorem V_v7 (c : Dev nD) : V m c main_v7 = cR (m ((c.tc : Thread nD τ).loc main_arg1)) := by
  entry_read
  rfl

/-- The region finds the table. -/
theorem V_v8 (c : Dev nD) : V m c main_v8 = tabR := by
  entry_read
  rfl

/-- The table's entries. -/
theorem lit_eq : ∀ k : Fin 246, lit0 k = BitVec.ofNat 32 ((k.val + 2) * 8388608) := by decide +kernel

/-- The table's entries are powers of two. -/
theorem tabR_apply (k : Fin 246) : tabR (ix4 k 0 0 0) = P2 ((k.val : ℤ) - 125) := by
  have e : (((k.val + 2 : ℕ) : ℤ) - 127) = (k.val : ℤ) - 125 := by push_cast; ring
  have hr : S246.rowMajor (ix1 k) = k := Fin.ext (rowMajor_val1 _)
  have h2 : tabR (ix4 k 0 0 0) = Ideal.ofBits .f32 (lit0 (S246.rowMajor (ix1 k))) := by
    unfold tabR
    pointwise
  rw [h2, hr, lit_eq, ofBits_field _ (by omega) (by have := k.isLt; omega), e]

/-- The one point. -/
def tt : Fin cfg0.N := ⟨0, by decide⟩

/-- Each window's one block starts at the origin. -/
theorem rindex_0 : ∀ t : Fin grid0.N, win0_0.index t = ![0, 0, 0] := by decide +kernel
/-- The block window 1 of the reference is at: the whole array. -/
theorem rindex_1 : ∀ t : Fin grid0.N, win0_1.index t = ![0, 0, 0, 0] := by decide +kernel
/-- The block window 2 of the reference is at: the whole array. -/
theorem rindex_2 : ∀ t : Fin grid0.N, win0_2.index t = ![0, 0, 0] := by decide +kernel
/-- The block window 3 of the reference is at: the whole array. -/
theorem rindex_3 : ∀ t : Fin grid0.N, win0_3.index t = ![0, 0, 0, 0] := by decide +kernel
/-- The block window 4 of the reference is at: the whole array. -/
theorem rindex_4 : ∀ t : Fin grid0.N, win0_4.index t = ![0, 0, 0] := by decide +kernel
/-- The block window 5 of the reference is at: the whole array. -/
theorem rindex_5 : ∀ t : Fin grid0.N, win0_5.index t = ![0, 0, 0, 0] := by decide +kernel
/-- The block window 6 of the reference is at: the whole array. -/
theorem rindex_6 : ∀ t : Fin grid0.N, win0_6.index t = ![0, 0, 0, 0] := by decide +kernel
/-- The block window 7 of the reference is at: the whole array. -/
theorem rindex_7 : ∀ t : Fin grid0.N, win0_7.index t = ![0, 0, 0] := by decide +kernel
/-- The block window 8 of the reference is at: the whole array. -/
theorem rindex_8 : ∀ t : Fin grid0.N, win0_8.index t = ![0, 0, 0, 0] := by decide +kernel
/-- The block window 9 of the reference is at: the whole array. -/
theorem rindex_9 : ∀ t : Fin grid0.N, win0_9.index t = ![0, 0, 0] := by decide +kernel

/-! The windows' blocks are whole arrays. -/

/-- Window 0's block. -/
theorem iblk0 (c : Dev nD) : iblk m c 0 tt = m ((c.tc : Thread nD τ).loc main_arg0) := by
  rw [← V_main_arg0 m c]
  funext y
  blk_simp [iblk]
  congr 1
  funext d
  refine Fin.ext ?_
  match d with
  | ⟨0, _⟩ => blk_simp [rindex_0]; try simp
  | ⟨1, _⟩ => blk_simp [rindex_0]; try simp
  | ⟨2, _⟩ => blk_simp [rindex_0]; try simp

/-- Window 1's block. -/
theorem iblk1 (c : Dev nD) : iblk m c 1 tt = cR (m ((c.tc : Thread nD τ).loc main_arg1)) := by
  rw [← V_v7 m c]
  funext y
  blk_simp [iblk]
  congr 1
  funext d
  refine Fin.ext ?_
  match d with
  | ⟨0, _⟩ => blk_simp [rindex_1]; try simp
  | ⟨1, _⟩ => blk_simp [rindex_1]; try simp
  | ⟨2, _⟩ => blk_simp [rindex_1]; try simp
  | ⟨3, _⟩ => blk_simp [rindex_1]; try simp

/-- Window 2's block. -/
theorem iblk2 (c : Dev nD) : iblk m c 2 tt = decR (m ((c.tc : Thread nD τ).loc main_arg2)) (m ((c.tc : Thread nD τ).loc main_arg3)) := by
  rw [← V_v6 m c]
  funext y
  blk_simp [iblk]
  congr 1
  funext d
  refine Fin.ext ?_
  match d with
  | ⟨0, _⟩ => blk_simp [rindex_2]; try simp
  | ⟨1, _⟩ => blk_simp [rindex_2]; try simp
  | ⟨2, _⟩ => blk_simp [rindex_2]; try simp

/-- Window 3's block. -/
theorem iblk3 (c : Dev nD) : iblk m c 3 tt = m ((c.tc : Thread nD τ).loc main_arg4) := by
  rw [← V_main_arg4 m c]
  funext y
  blk_simp [iblk]
  congr 1
  funext d
  refine Fin.ext ?_
  match d with
  | ⟨0, _⟩ => blk_simp [rindex_3]; try simp
  | ⟨1, _⟩ => blk_simp [rindex_3]; try simp
  | ⟨2, _⟩ => blk_simp [rindex_3]; try simp
  | ⟨3, _⟩ => blk_simp [rindex_3]; try simp

/-- Window 4's block. -/
theorem iblk4 (c : Dev nD) : iblk m c 4 tt = m ((c.tc : Thread nD τ).loc main_arg5) := by
  rw [← V_main_arg5 m c]
  funext y
  blk_simp [iblk]
  congr 1
  funext d
  refine Fin.ext ?_
  match d with
  | ⟨0, _⟩ => blk_simp [rindex_4]; try simp
  | ⟨1, _⟩ => blk_simp [rindex_4]; try simp
  | ⟨2, _⟩ => blk_simp [rindex_4]; try simp

/-- Window 5's block. -/
theorem iblk5 (c : Dev nD) : iblk m c 5 tt = m ((c.tc : Thread nD τ).loc main_arg6) := by
  rw [← V_main_arg6 m c]
  funext y
  blk_simp [iblk]
  congr 1
  funext d
  refine Fin.ext ?_
  match d with
  | ⟨0, _⟩ => blk_simp [rindex_5]; try simp
  | ⟨1, _⟩ => blk_simp [rindex_5]; try simp
  | ⟨2, _⟩ => blk_simp [rindex_5]; try simp
  | ⟨3, _⟩ => blk_simp [rindex_5]; try simp

/-- Window 6's block. -/
theorem iblk6 (c : Dev nD) : iblk m c 6 tt = tabR := by
  rw [← V_v8 m c]
  funext y
  blk_simp [iblk]
  congr 1
  funext d
  refine Fin.ext ?_
  match d with
  | ⟨0, _⟩ => blk_simp [rindex_6]; try simp
  | ⟨1, _⟩ => blk_simp [rindex_6]; try simp
  | ⟨2, _⟩ => blk_simp [rindex_6]; try simp
  | ⟨3, _⟩ => blk_simp [rindex_6]; try simp

/-- The arguments, and the reference's decays, by name. -/
abbrev a0 (c : Dev nD) := m ((c.tc : Thread nD τ).loc main_arg0)
abbrev a1 (c : Dev nD) := m ((c.tc : Thread nD τ).loc main_arg1)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
def dR (c : Dev nD) (b : Fin 5) (s : Fin 384) (h : Fin 32) : EReal :=
  decR (m ((c.tc : Thread nD τ).loc main_arg2)) (m ((c.tc : Thread nD τ).loc main_arg3)) (ix3 b s h)

/-- `C`, group first, at an index. -/
theorem cR_apply (C : FVec Ideal S5x384x4x256 .bf16) (b : Fin 5) (g : Fin 4) (s : Fin 384) (k : Fin 256) :
    cR C (ix4 b g s k) = C (ix4 b s g k) := by
  unfold cR
  pointwise

/-- The zero offsets of rank three. -/
theorem hz3 : (![0, 0, 0] : Fin 3 → ℕ) = fun _ => 0 := by funext a; fin_cases a <;> rfl
/-- The zero offsets of rank four. -/
theorem hz4 : (![0, 0, 0, 0] : Fin 4 → ℕ) = fun _ => 0 := by funext a; fin_cases a <;> rfl

/-- What the body leaves of outputs, its loads read. -/
theorem out0_7_eq (x0 : Vec Ideal S5x384x4096 .bf16) (x1 : Vec Ideal S5x4x384x256 .bf16) (x2 : Vec Ideal S5x384x32 .f32) (x3 : Vec Ideal S5x32x128x256 .fp8e4m3)
    (x4 : Vec Ideal S5x32x256 .f32) (x5 : Vec Ideal S5x32x128x256 .f32) (x6 : Vec Ideal S246x1x1x1 .f32) :
    out0_7 x0 x1 x2 x3 x4 x5 x6 = k0_pay3 x4 x3 x1 x2 x0 := by
  unfold out0_7
  rw [View.canon_unit_zero hz3, View.ld_unit_zero hz3, View.ld_unit_zero hz4, View.ld_unit_zero hz4, View.ld_unit_zero hz3, View.ld_unit_zero hz3]

/-- What the body leaves of codes, its loads read. -/
theorem out0_8_eq (x0 : Vec Ideal S5x384x4096 .bf16) (x1 : Vec Ideal S5x4x384x256 .bf16) (x2 : Vec Ideal S5x384x32 .f32) (x3 : Vec Ideal S5x32x128x256 .fp8e4m3)
    (x4 : Vec Ideal S5x32x256 .f32) (x5 : Vec Ideal S5x32x128x256 .f32) (x6 : Vec Ideal S246x1x1x1 .f32) :
    out0_8 x0 x1 x2 x3 x4 x5 x6 = k0_pay1 (k0_pay8 (k0_pay4 x4 x3) (k0_pay5 x2) x5 x6) (Scalar.ofBits .f32 0xC3E00000#32) (Scalar.ofBits .f32 0x43E00000#32) := by
  unfold out0_8 k0_pay9 k0_pay10
  rw [View.canon_unit_zero hz4, View.ld_unit_zero hz3, View.ld_unit_zero hz4, View.ld_unit_zero hz3, View.ld_unit_zero hz4, View.ld_unit_zero hz4]

/-- What the body leaves of scales, its loads read. -/
theorem out0_9_eq (x0 : Vec Ideal S5x384x4096 .bf16) (x1 : Vec Ideal S5x4x384x256 .bf16) (x2 : Vec Ideal S5x384x32 .f32) (x3 : Vec Ideal S5x32x128x256 .fp8e4m3)
    (x4 : Vec Ideal S5x32x256 .f32) (x5 : Vec Ideal S5x32x128x256 .f32) (x6 : Vec Ideal S246x1x1x1 .f32) :
    out0_9 x0 x1 x2 x3 x4 x5 x6 = k0_pay7 (k0_pay4 x4 x3) (k0_pay5 x2) x5 x6 := by
  unfold out0_9 k0_pay9 k0_pay10
  rw [View.canon_unit_zero hz3, View.ld_unit_zero hz3, View.ld_unit_zero hz4, View.ld_unit_zero hz3, View.ld_unit_zero hz4, View.ld_unit_zero hz4]

/-- The array of outputs. -/
theorem fin7 (c : Dev nD) : (dats m 0 c).arrAt 7 cfg0.N = k0_pay3 (a5 m c) (a4 m c) (cR (a1 m c)) (decR (m ((c.tc : Thread nD τ).loc main_arg2)) (m ((c.tc : Thread nD τ).loc main_arg3))) (a0 m c) := by
  have key : (dats m 0 c).after 7 tt = k0_pay3 (a5 m c) (a4 m c) (cR (a1 m c)) (decR (m ((c.tc : Thread nD τ).loc main_arg2)) (m ((c.tc : Thread nD τ).loc main_arg3))) (a0 m c) := by
    rw [after0_7, iblk0, iblk1, iblk2, iblk3, iblk4, iblk5, iblk6, out0_7_eq]
  generalize k0_pay3 (a5 m c) (a4 m c) (cR (a1 m c)) (decR (m ((c.tc : Thread nD τ).loc main_arg2)) (m ((c.tc : Thread nD τ).loc main_arg3))) (a0 m c) = G at key ⊢
  exact (dats m 0 c).arrAt_eq_of_after_last 7 tt (by decide +kernel) G fun j => congrFun key j

/-- The array of codes. -/
theorem fin8 (c : Dev nD) : (dats m 0 c).arrAt 8 cfg0.N = k0_pay1 (k0_pay8 (k0_pay4 (a5 m c) (a4 m c)) (k0_pay5 (decR (m ((c.tc : Thread nD τ).loc main_arg2)) (m ((c.tc : Thread nD τ).loc main_arg3)))) (a6 m c) tabR) (Scalar.ofBits .f32 0xC3E00000#32) (Scalar.ofBits .f32 0x43E00000#32) := by
  have key : (dats m 0 c).after 8 tt = k0_pay1 (k0_pay8 (k0_pay4 (a5 m c) (a4 m c)) (k0_pay5 (decR (m ((c.tc : Thread nD τ).loc main_arg2)) (m ((c.tc : Thread nD τ).loc main_arg3)))) (a6 m c) tabR) (Scalar.ofBits .f32 0xC3E00000#32) (Scalar.ofBits .f32 0x43E00000#32) := by
    rw [after0_8, iblk0, iblk1, iblk2, iblk3, iblk4, iblk5, iblk6, out0_8_eq]
  generalize k0_pay1 (k0_pay8 (k0_pay4 (a5 m c) (a4 m c)) (k0_pay5 (decR (m ((c.tc : Thread nD τ).loc main_arg2)) (m ((c.tc : Thread nD τ).loc main_arg3)))) (a6 m c) tabR) (Scalar.ofBits .f32 0xC3E00000#32) (Scalar.ofBits .f32 0x43E00000#32) = G at key ⊢
  exact (dats m 0 c).arrAt_eq_of_after_last 8 tt (by decide +kernel) G fun j => congrFun key j

/-- The array of scales. -/
theorem fin9 (c : Dev nD) : (dats m 0 c).arrAt 9 cfg0.N = k0_pay7 (k0_pay4 (a5 m c) (a4 m c)) (k0_pay5 (decR (m ((c.tc : Thread nD τ).loc main_arg2)) (m ((c.tc : Thread nD τ).loc main_arg3)))) (a6 m c) tabR := by
  have key : (dats m 0 c).after 9 tt = k0_pay7 (k0_pay4 (a5 m c) (a4 m c)) (k0_pay5 (decR (m ((c.tc : Thread nD τ).loc main_arg2)) (m ((c.tc : Thread nD τ).loc main_arg3)))) (a6 m c) tabR := by
    rw [after0_9, iblk0, iblk1, iblk2, iblk3, iblk4, iblk5, iblk6, out0_9_eq]
  generalize k0_pay7 (k0_pay4 (a5 m c) (a4 m c)) (k0_pay5 (decR (m ((c.tc : Thread nD τ).loc main_arg2)) (m ((c.tc : Thread nD τ).loc main_arg3)))) (a6 m c) tabR = G at key ⊢
  exact (dats m 0 c).arrAt_eq_of_after_last 9 tt (by decide +kernel) G fun j => congrFun key j

/-- The reference's outputs. -/
theorem out7 (c : Dev nD) (b : Fin 5) (s : Fin 384) (l : Fin 4096) :
    (dats m 0 c).arrAt 7 cfg0.N (ix3 b s l) = specY (dR m c) (a0 m c) (a1 m c) (a4 m c) (a5 m c) b s l := by
  rw [fin7, pay3_apply]
  unfold specY dR
  simp only [cR_apply]

/-- The reference's states. -/
theorem pay6_spec (c : Dev nD) (b : Fin 5) (h : Fin 32) (p : Fin 128) (n : Fin 256) :
    k0_pay6 (k0_pay4 (a5 m c) (a4 m c)) (k0_pay5 (decR (m ((c.tc : Thread nD τ).loc main_arg2)) (m ((c.tc : Thread nD τ).loc main_arg3)))) (a6 m c) (ix4 b h p n)
      = specV (dR m c) (a4 m c) (a5 m c) (a6 m c) b h p n := by
  rw [pay6_apply]
  rfl

/-- The reference's greatest magnitudes. -/
theorem amax_spec (c : Dev nD) (b : Fin 5) (h : Fin 32) (n : Fin 256) :
    amax (k0_pay6 (k0_pay4 (a5 m c) (a4 m c)) (k0_pay5 (decR (m ((c.tc : Thread nD τ).loc main_arg2)) (m ((c.tc : Thread nD τ).loc main_arg3)))) (a6 m c)) b h n
      = specA (dR m c) (a4 m c) (a5 m c) (a6 m c) b h n := by
  unfold amax specA
  refine Finset.fold_congr fun p _ => ?_
  rw [pay6_spec]

/-- The reference's codes. -/
theorem out8 (c : Dev nD) (b : Fin 5) (h : Fin 32) (p : Fin 128) (n : Fin 256) :
    (dats m 0 c).arrAt 8 cfg0.N (ix4 b h p n) = specQ (dR m c) (a4 m c) (a5 m c) (a6 m c) b h p n := by
  rw [fin8, pay1_apply, pay8_apply, pay7_apply _ _ _ _ tabR_apply, amax_spec, pay6_spec, inv_eq]
  rfl

/-- The reference's scales. -/
theorem out9 (c : Dev nD) (b : Fin 5) (h : Fin 32) (n : Fin 256) :
    (dats m 0 c).arrAt 9 cfg0.N (ix3 b h n) = specS (dR m c) (a4 m c) (a5 m c) (a6 m c) b h n := by
  rw [fin9, pay7_apply _ _ _ _ tabR_apply, amax_spec, scale_eq]
  rfl

end Cert.K.Ref
-- ==== Proof.RDec.lean ====
/- The reference's decays: the exponential of a running sum. -/
module

public import proofs.«01_k».proof.Proof.RHost

@[expose] public section

set_option maxRecDepth 16384

noncomputable section

namespace Cert.K.Ref

open Idealize.ShloMosaic Idealize.ShloMosaic.TcCoe Idealize.ShloMosaic.Tactic
open Cert.ReferenceIdeal Cert.ReferenceIdeal.Gen

/-- A left fold of additions is a sum. -/
theorem foldl_sum (N : ℕ) (f : Fin N → EReal) (v : EReal) :
    (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, ← List.ofFn_eq_map, List.sum_ofFn]

/-- The steps' logarithms at an index. -/
theorem laR_apply (dt : FVec Ideal S5x384x32 .f32) (al : FVec Ideal S32 .f32) (b : Fin 5) (s : Fin 384) (h : Fin 32) :
    laR dt al (ix3 b s h) = -(Ideal.exp (al (ix1 h))) * dt (ix3 b s h) := by
  unfold laR
  pointwise

/-- A sum over windows, at an index: the initial value and the window's elements. -/
theorem rwAdd_apply {s t u : Shape} (window strides lo hi : Fin s.rank → ℕ) (x : FVec Ideal s .f32) (init : FVec Ideal u .f32)
    (h : s.ReduceWindows window strides lo hi t) (hu : 0 < u.numel) (j : t.Idx) :
    Host.reduceWindowAdd window strides lo hi x init h hu j
      = init (Shape.Idx.first hu) + ∑ w : (⟨s.rank, window⟩ : Shape).Idx,
        (if hin : ∀ a, lo a ≤ (j (a.cast h.1.symm)).val * strides a + (w a).val
            ∧ (j (a.cast h.1.symm)).val * strides a + (w a).val - lo a < s.size a
          then x (fun a => ⟨(j (a.cast h.1.symm)).val * strides a + (w a).val - lo a, (hin a).2⟩)
          else init (Shape.Idx.first hu) : EReal) := by
  let g : (⟨s.rank, window⟩ : Shape).Idx → EReal := fun w =>
        (if hin : ∀ a, lo a ≤ (j (a.cast h.1.symm)).val * strides a + (w a).val
            ∧ (j (a.cast h.1.symm)).val * strides a + (w a).val - lo a < s.size a
          then x (fun a => ⟨(j (a.cast h.1.symm)).val * strides a + (w a).val - lo a, (hin a).2⟩)
          else init (Shape.Idx.first hu) : EReal)
  have e : Host.reduceWindowAdd window strides lo hi x init h hu j
      = (List.finRange (⟨s.rank, window⟩ : Shape).numel).foldl
        (fun r n => r + g ((⟨s.rank, window⟩ : Shape).rowMajor.symm n)) (init (Shape.Idx.first hu)) := by
    unfold Host.reduceWindowAdd
    rw [Ideal.hostReduceWindowAdd_def]
    unfold Ideal.hostReduceWindowAdd Host.reduceWindow
    dsimp only
    refine congrArg (fun f => List.foldl f _ _) (funext fun r => funext fun n => congrArg (fun z : EReal => r + z) ?_)
    dsimp only [g]
    split_ifs <;> rfl
  rw [e, foldl_sum]
  exact congrArg _ (Equiv.sum_comp (⟨s.rank, window⟩ : Shape).rowMajor.symm g)

/-- The window of one batch, all steps, one head. -/
abbrev W : Shape := ⟨3, ![1, 384, 1]⟩

/-- The positions of the window are the steps. -/
def winEquiv : Fin 384 ≃ W.Idx where
  toFun w := ix3 (0 : Fin 1) w (0 : Fin 1)
  invFun x := x 1
  left_inv w := rfl
  right_inv x := by
    obtain ⟨a, b, d, rfl⟩ : ∃ (a : Fin 1) (b : Fin 384) (d : Fin 1), x = ix3 a b d := ⟨x 0, x 1, x 2, eq_ix3 x⟩
    obtain rfl : a = 0 := Subsingleton.elim _ _
    obtain rfl : d = 0 := Subsingleton.elim _ _
    rfl

/-- The running sum at an index. -/
theorem cum_apply (x : FVec Ideal S5x384x32 .f32) (b : Fin 5) (s : Fin 384) (h : Fin 32) :
    Host.reduceWindowAdd ![1, 384, 1] ![1, 1, 1] ![0, 383, 0] ![0, 0, 0] x
      (broadcastInDim S_ ![] bcast_S_S_ (constant S_ .f32 0x00000000#32 : FVec Ideal S_ .f32)) reduceWindows_S5x384x32_S5x384x32_w1s1p0_0_w384s1p383_0_w1s1p0_0 h_S_ (ix3 b s h)
      = ∑ t : Fin 384, if t.val ≤ s.val then x (ix3 b t h) else 0 := by
  have hz : Ideal.ofBits .f32 0x00000000#32 = 0 := Ideal.ofBits_zero_f32
  have hi0 : ∀ q, (broadcastInDim S_ ![] bcast_S_S_ (constant S_ .f32 0x00000000#32 : FVec Ideal S_ .f32)) q = (0 : EReal) := fun q => hz
  rw [rwAdd_apply]
  simp only [hi0, zero_add]
  rw [← Equiv.sum_comp (Equiv.addRight (s + 1)) (fun t : Fin 384 => if t.val ≤ s.val then x (ix3 b t h) else 0)]
  refine (Equiv.sum_comp winEquiv _).symm.trans ?_
  refine Finset.sum_congr rfl fun w _ => ?_
  have hw : w.val < 384 := w.isLt
  have hs : s.val < 384 := s.isLt
  have hv : (Equiv.addRight (s + 1) w).val = (w.val + s.val + 1) % 384 := by
    show (w + (s + 1)).val = _
    rw [Fin.val_add, Fin.val_add]
    show (w.val + (s.val + 1) % 384) % 384 = _
    omega
  by_cases hc : 383 ≤ s.val + w.val
  · rw [dif_pos, if_pos (by rw [hv]; omega)]
    · congr 1
      funext a
      refine Fin.ext ?_
      match a with
      | ⟨0, _⟩ => show b.val * 1 + 0 - 0 = b.val; omega
      | ⟨1, _⟩ =>
        show s.val * 1 + w.val - 383 = (Equiv.addRight (s + 1) w).val
        rw [hv]; omega
      | ⟨2, _⟩ => show h.val * 1 + 0 - 0 = h.val; omega
    · intro a
      match a with
      | ⟨0, _⟩ => show 0 ≤ b.val * 1 + 0 ∧ b.val * 1 + 0 - 0 < 5; omega
      | ⟨1, _⟩ => show 383 ≤ s.val * 1 + w.val ∧ s.val * 1 + w.val - 383 < 384; omega
      | ⟨2, _⟩ => show 0 ≤ h.val * 1 + 0 ∧ h.val * 1 + 0 - 0 < 32; omega
  · rw [dif_neg, if_neg (by rw [hv]; omega)]
    intro hin
    have := (hin 1).1
    have h' : 383 ≤ s.val * 1 + w.val := this
    omega

/-- The decays at an index. -/
theorem decR_apply (dt : FVec Ideal S5x384x32 .f32) (al : FVec Ideal S32 .f32) (b : Fin 5) (s : Fin 384) (h : Fin 32) :
    decR dt al (ix3 b s h) = Ideal.exp (∑ t : Fin 384, if t.val ≤ s.val then -(Ideal.exp (al (ix1 h))) * dt (ix3 b t h) else 0) := by
  unfold decR
  show Ideal.exp (Host.reduceWindowAdd ![1, 384, 1] ![1, 1, 1] ![0, 383, 0] ![0, 0, 0] (laR dt al)
    (broadcastInDim S_ ![] bcast_S_S_ (constant S_ .f32 0x00000000#32 : FVec Ideal S_ .f32)) reduceWindows_S5x384x32_S5x384x32_w1s1p0_0_w384s1p383_0_w1s1p0_0 h_S_ (ix3 b s h)) = _
  rw [cum_apply]
  simp only [laR_apply]

end Cert.K.Ref
-- ==== Proof.Join.lean ====
/- The kernel's results and the reference's are equal where the precondition holds. -/
module

public import proofs.«01_k».proof.Proof.KSpec
public import proofs.«01_k».proof.Proof.RDec
public import proofs.«01_k».proof.Defs
public import Idealize.ShloMosaic.Lib.ReduceAll

@[expose] public section

set_option maxRecDepth 16384

noncomputable section

namespace Cert.K

open Idealize.ShloMosaic Idealize.ShloMosaic.TcCoe Idealize.ShloMosaic.Tactic

/-- A comparison that says one is one. -/
theorem olt_one (x y : EReal) (h : FloatOps.cmpf (F := Ideal) (φ := .f32) .olt x y = 1#1) : x < y := by
  have e : FloatOps.cmpf (F := Ideal) (φ := .f32) .olt x y = BitVec.ofBool (decide (x < y)) := rfl
  rw [e] at h
  by_contra hc
  rw [decide_eq_false hc] at h
  exact absurd h (by decide)

/-- A number whose magnitude is below infinity is real. -/
theorem real_of_abs (x : EReal) (h : max x (-x) < ⊤) : ∃ d : ℝ, x = (d : EReal) := by
  induction x using EReal.rec with
  | bot => exact absurd h (by simp)
  | coe x => exact ⟨x, rfl⟩
  | top => exact absurd h (by simp)

/-- Indices of a scalar are one. -/
instance : Subsingleton Cert.Pre_finite.S_.Idx := ⟨fun a b => funext fun d => d.elim0⟩

/-- The precondition, read. -/
theorem finite_of_pre [hP : Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : Finite m c := by
  have hc := congrFun (h c) (fun d : Fin 0 => d.elim0)
  unfold Cert.Pre_finite.fn at hc
  obtain ⟨hd, ha⟩ := IntOp.andi_eq_one.1 hc
  refine ⟨fun b s k => ?_, fun k => ?_⟩
  · have e := Host.reduce_andi_all _ _ _ _ _ hd (ix3 b s k)
    refine real_of_abs _ ?_
    have e2 := olt_one (max (a2 m c (ix3 b s k)) (-(a2 m c (ix3 b s k)))) (Ideal.ofBits .f32 0x7F800000#32) e
    rwa [Ref.ofBits_top] at e2
  · have e := Host.reduce_andi_all _ _ _ _ _ ha (ix1 k)
    have e2 := olt_one (a3 m c (ix1 k)) (Ideal.ofBits .f32 0x7F800000#32) e
    rwa [Ref.ofBits_top] at e2

/-- The reference's decays are the decays. -/
theorem dR_eq (m : (ℓ : Loc Cert.ReferenceIdeal.nD Cert.ReferenceIdeal.τ Cert.ReferenceIdeal.sig) → Buf (Elt Ideal) ℓ)
    (c : Dev Cert.ReferenceIdeal.nD) :
    Ref.dR m c = decS (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3)) := by
  funext b s h
  unfold Ref.dR
  rw [Ref.decR_apply]
  rfl

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hfin : Finite m c)
  (h0 : Ref.a0 m' c = a0 m c) (h1 : Ref.a1 m' c = a1 m c) (h4 : Ref.a4 m' c = a4 m c) (h5 : Ref.a5 m' c = a5 m c) (h6 : Ref.a6 m' c = a6 m c)
  (hd : Ref.dR m' c = decS (a2 m c) (a3 m c))

include hfin hd h4 h5 in
include h0 h1 in
/-- The outputs agree. -/
theorem join7 : ((Cert.ReferenceIdeal.Gen.dats m' 0 c).arrAt 7 Cert.ReferenceIdeal.cfg0.N : (⟨3, ![5, 384, 4096]⟩ : Shape).Idx → EReal) = Cert.KernelIdeal.Gen.YK m c := by
  funext i
  obtain ⟨b, s, l, rfl⟩ : ∃ (b : Fin 5) (s : Fin 384) (l : Fin 4096), i = ix3 b s l := ⟨i 0, i 1, i 2, eq_ix3 i⟩
  rw [YK_val m c hfin b s l]
  refine (Ref.out7 m' c b s l).trans ?_
  rw [hd, h0, h1, h4, h5]

include hfin hd h4 h5 h6 in
/-- The codes agree. -/
theorem join8 : ((Cert.ReferenceIdeal.Gen.dats m' 0 c).arrAt 8 Cert.ReferenceIdeal.cfg0.N : (⟨4, ![5, 32, 128, 256]⟩ : Shape).Idx → EReal) = Cert.KernelIdeal.Gen.QK m c := by
  funext i
  obtain ⟨b, h, p, n, rfl⟩ : ∃ (b : Fin 5) (h : Fin 32) (p : Fin 128) (n : Fin 256), i = ix4 b h p n := ⟨i 0, i 1, i 2, i 3, eq_ix4 i⟩
  rw [QK_val m c hfin b h p n]
  refine (Ref.out8 m' c b h p n).trans ?_
  rw [hd, h4, h5, h6]

include hfin hd h4 h5 h6 in
/-- The scales agree. -/
theorem join9 : ((Cert.ReferenceIdeal.Gen.dats m' 0 c).arrAt 9 Cert.ReferenceIdeal.cfg0.N : (⟨3, ![5, 32, 256]⟩ : Shape).Idx → EReal) = Cert.KernelIdeal.Gen.SK m c := by
  funext i
  obtain ⟨b, h, n, rfl⟩ : ∃ (b : Fin 5) (h : Fin 32) (n : Fin 256), i = ix3 b h n := ⟨i 0, i 1, i 2, eq_ix3 i⟩
  rw [SK_val m c hfin b h n]
  refine (Ref.out9 m' c b h n).trans ?_
  rw [hd, h4, h5, h6]

end

end Cert.K
-- ==== Proof.lean ====
module

public import proofs.«01_k».proof.Defs
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.BFrame
public import proofs.«01_k».proof.Proof.Join
public import Idealize.ShloMosaic.Adequacy
public import Idealize.ShloMosaic.Init

@[expose] public section

noncomputable section

namespace Cert.Proof

open Idealize.ShloMosaic Idealize.SL.Sem Cert.Kernel

/-- The kernel's run at exact numbers ends with its arguments unchanged and its semaphores at zero. -/
theorem quietK : quiescent_KernelIdeal (hKernelIdeal := Cert.KernelIdeal.Gen.facts) := fun m g _ =>
  (θ_run _ _ _).mono (fun _ h => ⟨fun c => ((h.1 c).2.2).2, h.2⟩) (Cert.KernelIdeal.Gen.run_values m g)

/-- The kernel and the reference end with equal results. -/
theorem equal : algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hpre harg => by
  refine ⟨fun c => Cert.KernelIdeal.Gen.YK m c, fun c => Cert.KernelIdeal.Gen.QK m c, fun c => Cert.KernelIdeal.Gen.SK m c,
    (θ_run _ _ _).mono (fun _ h => h.1) (Cert.KernelIdeal.Gen.run_values m g), ?_⟩
  refine (θ_run _ _ _).mono (fun r h c => ?_) (Cert.ReferenceIdeal.Value.run_blocks m' g')
  obtain ⟨r7, r8, r9, rest⟩ := h c
  obtain ⟨e0, e1, e2, e3, e4, e5, e6⟩ := harg c
  have hfin := Cert.K.finite_of_pre (hP := Cert.Pre_finite.Gen.facts) m hpre c
  have hd : Cert.K.Ref.dR m' c = Cert.K.decS (Cert.K.a2 m c) (Cert.K.a3 m c) := by
    rw [Cert.K.dR_eq, e2, e3]
  exact ⟨r7.trans (Cert.K.join7 m m' c hfin e0 e1 e4 e5 hd), r8.trans (Cert.K.join8 m m' c hfin e4 e5 e6 hd),
    r9.trans (Cert.K.join9 m m' c hfin e4 e5 e6 hd), rest⟩

/-- Every claim. -/
theorem claim : Cert.Claim := ⟨Cert.Kernel.Gen.facts, Cert.KernelIdeal.Gen.facts, Cert.ReferenceIdeal.Gen.facts, Cert.Pre_finite.Gen.facts,
  fun m g _ => Cert.Kernel.Gen.frame m g, quietK, fun m g _ => quietK m g trivial, fun m g _ => Cert.ReferenceIdeal.Gen.frame m g,
  fun m g _ => Cert.ReferenceIdeal.Gen.frame m g, trivial, equal⟩

end Cert.Proof

end
